-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)) (v8 : (c : Dev Cert.KernelIdeal.nD) → Buf (Elt Ideal) ((c.tc : Thread Cert.KernelIdeal.nD Cert.KernelIdeal.τ).loc Cert.KernelIdeal.main_v2_8)) (v9 : (c : Dev Cert.KernelIdeal.nD) → Buf (Elt Ideal) ((c.tc : Thread Cert.KernelIdeal.nD Cert.KernelIdeal.τ).loc Cert.KernelIdeal.main_v2_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_v2_8) = v8 c
          ∧ r.2.mem ((c.tc : Thread Cert.KernelIdeal.nD Cert.KernelIdeal.τ).loc Cert.KernelIdeal.main_v2_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_v2_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3072x3072 : Shape := ⟨3, ![1, 3072, 3072]⟩
abbrev S3072x2048 : Shape := ⟨2, ![3072, 2048]⟩
abbrev S1x3072x2048 : Shape := ⟨3, ![1, 3072, 2048]⟩
abbrev S3x16 : Shape := ⟨2, ![3, 16]⟩
abbrev S3072x3072 : Shape := ⟨2, ![3072, 3072]⟩
abbrev S384x8x2048 : Shape := ⟨3, ![384, 8, 2048]⟩
abbrev S384x8x3072 : Shape := ⟨3, ![384, 8, 3072]⟩
abbrev S1x1 : Shape := ⟨2, ![1, 1]⟩
abbrev S512x3072 : Shape := ⟨2, ![512, 3072]⟩
abbrev S256x2048 : Shape := ⟨2, ![256, 2048]⟩
abbrev S512x2048 : Shape := ⟨2, ![512, 2048]⟩
abbrev S64x8x2048 : Shape := ⟨3, ![64, 8, 2048]⟩
abbrev S64x8x3072 : Shape := ⟨3, ![64, 8, 3072]⟩
abbrev S12x3072x256 : Shape := ⟨3, ![12, 3072, 256]⟩
abbrev S16x3072 : Shape := ⟨2, ![16, 3072]⟩
abbrev S16x2048 : Shape := ⟨2, ![16, 2048]⟩
abbrev S8x128 : Shape := ⟨2, ![8, 128]⟩
abbrev S3 : Shape := ⟨1, ![3]⟩
abbrev S3x1 : Shape := ⟨2, ![3, 1]⟩
abbrev S3x256 : Shape := ⟨2, ![3, 256]⟩
abbrev S3x128 : Shape := ⟨2, ![3, 128]⟩
abbrev S16x16x2048 : Shape := ⟨3, ![16, 16, 2048]⟩
abbrev S32x16x3072 : Shape := ⟨3, ![32, 16, 3072]⟩
abbrev S512x256 : Shape := ⟨2, ![512, 256]⟩
abbrev S1x512x256 : Shape := ⟨3, ![1, 512, 256]⟩
abbrev S32x16x2048 : Shape := ⟨3, ![32, 16, 2048]⟩
abbrev S1x16x3072 : Shape := ⟨3, ![1, 16, 3072]⟩
abbrev S1 : Shape := ⟨1, ![1]⟩
abbrev S1x1x1 : Shape := ⟨3, ![1, 1, 1]⟩
abbrev S1x16x2048 : Shape := ⟨3, ![1, 16, 2048]⟩
abbrev S3x15 : Shape := ⟨2, ![3, 15]⟩
abbrev S1x3072x256 : Shape := ⟨3, ![1, 3072, 256]⟩
abbrev S3072x256 : Shape := ⟨2, ![3072, 256]⟩

abbrev nBuf : Space → Nat
  | .hbm => 16
  | .vmem => 30
  | .smem => 0
  | _ => 0

abbrev bufTy : (tb : Table) → Fin (tcTables nBuf tb) → BufTy
  | .hbm, ⟨0, _⟩ => ⟨S1x3072x3072, .bf16⟩
  | .hbm, ⟨1, _⟩ => ⟨S3072x2048, .bf16⟩
  | .hbm, ⟨2, _⟩ => ⟨S1x3072x2048, .bf16⟩
  | .hbm, ⟨3, _⟩ => ⟨S3x16, .f32⟩
  | .hbm, ⟨4, _⟩ => ⟨S3072x3072, .bf16⟩
  | .hbm, ⟨5, _⟩ => ⟨S3072x2048, .bf16⟩
  | .hbm, ⟨6, _⟩ => ⟨S384x8x2048, .bf16⟩
  | .hbm, ⟨7, _⟩ => ⟨S384x8x3072, .bf16⟩
  | .hbm, ⟨8, _⟩ => ⟨S3072x2048, .f32⟩
  | .hbm, ⟨9, _⟩ => ⟨S3072x3072, .fp8e4m3⟩
  | .hbm, ⟨10, _⟩ => ⟨S1x1, .f32⟩
  | .hbm, ⟨11, _⟩ => ⟨S3072x2048, .fp8e4m3⟩
  | .hbm, ⟨12, _⟩ => ⟨S1x1, .f32⟩
  | .hbm, ⟨13, _⟩ => ⟨S3072x2048, .fp8e5m2⟩
  | .hbm, ⟨14, _⟩ => ⟨S1x1, .f32⟩
  | .hbm, ⟨15, _⟩ => ⟨S3x16, .f32⟩
  | .local _ .vmem, ⟨0, _⟩ => ⟨S3x16, .f32⟩
  | .local _ .vmem, ⟨1, _⟩ => ⟨S512x3072, .bf16⟩
  | .local _ .vmem, ⟨2, _⟩ => ⟨S512x3072, .bf16⟩
  | .local _ .vmem, ⟨3, _⟩ => ⟨S256x2048, .bf16⟩
  | .local _ .vmem, ⟨4, _⟩ => ⟨S256x2048, .bf16⟩
  | .local _ .vmem, ⟨5, _⟩ => ⟨S512x2048, .bf16⟩
  | .local _ .vmem, ⟨6, _⟩ => ⟨S512x2048, .bf16⟩
  | .local _ .vmem, ⟨7, _⟩ => ⟨S64x8x2048, .bf16⟩
  | .local _ .vmem, ⟨8, _⟩ => ⟨S64x8x2048, .bf16⟩
  | .local _ .vmem, ⟨9, _⟩ => ⟨S64x8x3072, .bf16⟩
  | .local _ .vmem, ⟨10, _⟩ => ⟨S64x8x3072, .bf16⟩
  | .local _ .vmem, ⟨11, _⟩ => ⟨S256x2048, .f32⟩
  | .local _ .vmem, ⟨12, _⟩ => ⟨S256x2048, .f32⟩
  | .local _ .vmem, ⟨13, _⟩ => ⟨S512x3072, .fp8e4m3⟩
  | .local _ .vmem, ⟨14, _⟩ => ⟨S512x3072, .fp8e4m3⟩
  | .local _ .vmem, ⟨15, _⟩ => ⟨S1x1, .f32⟩
  | .local _ .vmem, ⟨16, _⟩ => ⟨S256x2048, .fp8e4m3⟩
  | .local _ .vmem, ⟨17, _⟩ => ⟨S256x2048, .fp8e4m3⟩
  | .local _ .vmem, ⟨18, _⟩ => ⟨S1x1, .f32⟩
  | .local _ .vmem, ⟨19, _⟩ => ⟨S512x2048, .fp8e5m2⟩
  | .local _ .vmem, ⟨20, _⟩ => ⟨S512x2048, .fp8e5m2⟩
  | .local _ .vmem, ⟨21, _⟩ => ⟨S1x1, .f32⟩
  | .local _ .vmem, ⟨22, _⟩ => ⟨S3x16, .f32⟩
  | .local _ .vmem, ⟨23, _⟩ => ⟨S12x3072x256, .fp8e4m3⟩
  | .local _ .vmem, ⟨24, _⟩ => ⟨S3072x2048, .fp8e4m3⟩
  | .local _ .vmem, ⟨25, _⟩ => ⟨S3072x2048, .fp8e5m2⟩
  | .local _ .vmem, ⟨26, _⟩ => ⟨S16x3072, .bf16⟩
  | .local _ .vmem, ⟨27, _⟩ => ⟨S16x2048, .bf16⟩
  | .local _ .vmem, ⟨28, _⟩ => ⟨S16x2048, .bf16⟩
  | .local _ .vmem, ⟨29, _⟩ => ⟨S8x128, .f32⟩
  | _, _ => ⟨S1x3072x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev main_v2_7 : Ref sig .tc := ⟨.hbm, 13, rfl⟩
abbrev main_v2_8 : Ref sig .tc := ⟨.hbm, 14, rfl⟩
abbrev main_v2_9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![30], ![false]⟩

def k0_cond2 (i : grid0.Coords) : BitVec 1 :=
  let arg0 : BitVec 32 := BitVec.ofNat 32 (i 0).val
  let c12_i32 : BitVec 32 := 12#32
  let v3 : BitVec 1 := Scalar.cmpi .slt arg0 c12_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c256_i32 : BitVec 32 := 256#32
  let v36 : BitVec 32 := Scalar.muli arg0 c256_i32
  let v37 : Index := Scalar.indexCast v36
  let c0_17 : Index := 0#32
  ![v37.toNat, 0]
def k0_cond3 (i : grid0.Coords) : BitVec 1 :=
  let arg0 : BitVec 32 := BitVec.ofNat 32 (i 0).val
  let c12_i32_2 : BitVec 32 := 12#32
  let v6 : BitVec 1 := Scalar.cmpi .sge arg0 c12_i32_2
  let c18_i32 : BitVec 32 := 18#32
  let v7 : BitVec 1 := Scalar.cmpi .slt arg0 c18_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 3 → Nat :=
  let c0_18 : Index := 0#32
  let arg0 : BitVec 32 := BitVec.ofNat 32 (i 0).val
  let c12_i32_7 : BitVec 32 := 12#32
  let v17 : BitVec 32 := Scalar.subi arg0 c12_i32_7
  let c512_i32 : BitVec 32 := 512#32
  let v39 : BitVec 32 := Scalar.muli v17 c512_i32
  let v40 : Index := Scalar.indexCast v39
  let c0_19 : Index := 0#32
  ![0, v40.toNat, 0]
def k0_off3 (i : grid0.Coords) : Fin 3 → Nat :=
  let c1 : Index := 1#32
  let arg0 : BitVec 32 := BitVec.ofNat 32 (i 0).val
  let c12_i32_7 : BitVec 32 := 12#32
  let v17 : BitVec 32 := Scalar.subi arg0 c12_i32_7
  let c512_i32_20 : BitVec 32 := 512#32
  let v45 : BitVec 32 := Scalar.muli v17 c512_i32_20
  let v46 : Index := Scalar.indexCast v45
  let c0_21 : Index := 0#32
  ![1, v46.toNat, 0]
def k0_off4 (i : grid0.Coords) : Fin 3 → Nat :=
  let c2 : Index := 2#32
  let arg0 : BitVec 32 := BitVec.ofNat 32 (i 0).val
  let c12_i32_7 : BitVec 32 := 12#32
  let v17 : BitVec 32 := Scalar.subi arg0 c12_i32_7
  let c512_i32_22 : BitVec 32 := 512#32
  let v51 : BitVec 32 := Scalar.muli v17 c512_i32_22
  let v52 : Index := Scalar.indexCast v51
  let c0_23 : Index := 0#32
  ![2, v52.toNat, 0]
def k0_off5 (i : grid0.Coords) : Fin 3 → Nat :=
  let c3_25 : Index := 3#32
  let arg0 : BitVec 32 := BitVec.ofNat 32 (i 0).val
  let c12_i32_7 : BitVec 32 := 12#32
  let v17 : BitVec 32 := Scalar.subi arg0 c12_i32_7
  let c512_i32_24 : BitVec 32 := 512#32
  let v57 : BitVec 32 := Scalar.muli v17 c512_i32_24
  let v58 : Index := Scalar.indexCast v57
  let c0_26 : Index := 0#32
  ![3, v58.toNat, 0]
def k0_off6 (i : grid0.Coords) : Fin 3 → Nat :=
  let c4 : Index := 4#32
  let arg0 : BitVec 32 := BitVec.ofNat 32 (i 0).val
  let c12_i32_7 : BitVec 32 := 12#32
  let v17 : BitVec 32 := Scalar.subi arg0 c12_i32_7
  let c512_i32_27 : BitVec 32 := 512#32
  let v63 : BitVec 32 := Scalar.muli v17 c512_i32_27
  let v64 : Index := Scalar.indexCast v63
  let c0_28 : Index := 0#32
  ![4, v64.toNat, 0]
def k0_off7 (i : grid0.Coords) : Fin 3 → Nat :=
  let c5 : Index := 5#32
  let arg0 : BitVec 32 := BitVec.ofNat 32 (i 0).val
  let c12_i32_7 : BitVec 32 := 12#32
  let v17 : BitVec 32 := Scalar.subi arg0 c12_i32_7
  let c512_i32_29 : BitVec 32 := 512#32
  let v69 : BitVec 32 := Scalar.muli v17 c512_i32_29
  let v70 : Index := Scalar.indexCast v69
  let c0_30 : Index := 0#32
  ![5, v70.toNat, 0]
def k0_off8 (i : grid0.Coords) : Fin 3 → Nat :=
  let c6 : Index := 6#32
  let arg0 : BitVec 32 := BitVec.ofNat 32 (i 0).val
  let c12_i32_7 : BitVec 32 := 12#32
  let v17 : BitVec 32 := Scalar.subi arg0 c12_i32_7
  let c512_i32_31 : BitVec 32 := 512#32
  let v75 : BitVec 32 := Scalar.muli v17 c512_i32_31
  let v76 : Index := Scalar.indexCast v75
  let c0_32 : Index := 0#32
  ![6, v76.toNat, 0]
def k0_off9 (i : grid0.Coords) : Fin 3 → Nat :=
  let c7 : Index := 7#32
  let arg0 : BitVec 32 := BitVec.ofNat 32 (i 0).val
  let c12_i32_7 : BitVec 32 := 12#32
  let v17 : BitVec 32 := Scalar.subi arg0 c12_i32_7
  let c512_i32_33 : BitVec 32 := 512#32
  let v81 : BitVec 32 := Scalar.muli v17 c512_i32_33
  let v82 : Index := Scalar.indexCast v81
  let c0_34 : Index := 0#32
  ![7, v82.toNat, 0]
def k0_off10 (i : grid0.Coords) : Fin 3 → Nat :=
  let c8 : Index := 8#32
  let arg0 : BitVec 32 := BitVec.ofNat 32 (i 0).val
  let c12_i32_7 : BitVec 32 := 12#32
  let v17 : BitVec 32 := Scalar.subi arg0 c12_i32_7
  let c512_i32_35 : BitVec 32 := 512#32
  let v87 : BitVec 32 := Scalar.muli v17 c512_i32_35
  let v88 : Index := Scalar.indexCast v87
  let c0_36 : Index := 0#32
  ![8, v88.toNat, 0]
def k0_off11 (i : grid0.Coords) : Fin 3 → Nat :=
  let c9 : Index := 9#32
  let arg0 : BitVec 32 := BitVec.ofNat 32 (i 0).val
  let c12_i32_7 : BitVec 32 := 12#32
  let v17 : BitVec 32 := Scalar.subi arg0 c12_i32_7
  let c512_i32_37 : BitVec 32 := 512#32
  let v93 : BitVec 32 := Scalar.muli v17 c512_i32_37
  let v94 : Index := Scalar.indexCast v93
  let c0_38 : Index := 0#32
  ![9, v94.toNat, 0]
def k0_off12 (i : grid0.Coords) : Fin 3 → Nat :=
  let c10 : Index := 10#32
  let arg0 : BitVec 32 := BitVec.ofNat 32 (i 0).val
  let c12_i32_7 : BitVec 32 := 12#32
  let v17 : BitVec 32 := Scalar.subi arg0 c12_i32_7
  let c512_i32_39 : BitVec 32 := 512#32
  let v99 : BitVec 32 := Scalar.muli v17 c512_i32_39
  let v100 : Index := Scalar.indexCast v99
  let c0_40 : Index := 0#32
  ![10, v100.toNat, 0]
def k0_off13 (i : grid0.Coords) : Fin 3 → Nat :=
  let c11 : Index := 11#32
  let arg0 : BitVec 32 := BitVec.ofNat 32 (i 0).val
  let c12_i32_7 : BitVec 32 := 12#32
  let v17 : BitVec 32 := Scalar.subi arg0 c12_i32_7
  let c512_i32_41 : BitVec 32 := 512#32
  let v105 : BitVec 32 := Scalar.muli v17 c512_i32_41
  let v106 : Index := Scalar.indexCast v105
  let c0_42 : Index := 0#32
  ![11, v106.toNat, 0]
def k0_off14 (i : grid0.Coords) : Fin 2 → Nat :=
  let arg0 : BitVec 32 := BitVec.ofNat 32 (i 0).val
  let c12_i32_7 : BitVec 32 := 12#32
  let v17 : BitVec 32 := Scalar.subi arg0 c12_i32_7
  let c512_i32_56 : BitVec 32 := 512#32
  let v130 : BitVec 32 := Scalar.muli v17 c512_i32_56
  let v131 : Index := Scalar.indexCast v130
  let c0_57 : Index := 0#32
  ![v131.toNat, 0]
def k0_cond5 (i : grid0.Coords) : BitVec 1 :=
  let arg0 : BitVec 32 := BitVec.ofNat 32 (i 0).val
  let c18_i32_5 : BitVec 32 := 18#32
  let v14 : BitVec 1 := Scalar.cmpi .sge arg0 c18_i32_5
  let v15 : BitVec 32 := Scalar.extui v14
  let c0_i32_6 : BitVec 32 := 0#32
  let v16 : BitVec 1 := Scalar.cmpi .ne v15 c0_i32_6
  v16

def k0_off15 (i : grid0.Coords) : Fin 3 → Nat :=
  let arg0 : BitVec 32 := BitVec.ofNat 32 (i 0).val
  let c18_i32_7 : BitVec 32 := 18#32
  let v17 : BitVec 32 := Scalar.subi arg0 c18_i32_7
  let v18 : Index := Scalar.indexCast v17
  let c0 : Index := 0#32
  let c0_8 : Index := 0#32
  ![v18.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg0 : BitVec 32 := BitVec.ofNat 32 (i 0).val
  let c17_i32 : BitVec 32 := 17#32
  let v11 : BitVec 1 := Scalar.cmpi .eq arg0 c17_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  let c0_i32_2 : BitVec 32 := 0#32
  ![v2.toNat, c0_i32_0.toNat, c0_i32_1.toNat]

def cc0_transform_6 (i : grid0.Coords) : Fin 2 → Nat :=
  let arg0 : BitVec 32 := BitVec.ofNat 32 (i 0).val
  let c12_i32 : BitVec 32 := 12#32
  let v0 : BitVec 32 := Scalar.subi arg0 c12_i32
  let c6_i32 : BitVec 32 := 6#32
  let v1 : BitVec 32 := Scalar.subi v0 c6_i32
  let c0_i32 : BitVec 32 := 0#32
  let c11_i32 : BitVec 32 := 11#32
  let v2 : BitVec 32 := Scalar.maxsi c0_i32 v1
  let v3 : BitVec 32 := Scalar.minsi c11_i32 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x8x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S1x3072x3072 : Shape := ⟨3, ![1, 3072, 3072]⟩
abbrev S3072x2048 : Shape := ⟨2, ![3072, 2048]⟩
abbrev S1x3072x2048 : Shape := ⟨3, ![1, 3072, 2048]⟩
abbrev S3x16 : Shape := ⟨2, ![3, 16]⟩
abbrev S3072x3072 : Shape := ⟨2, ![3072, 3072]⟩
abbrev S384x8x2048 : Shape := ⟨3, ![384, 8, 2048]⟩
abbrev S384x8x3072 : Shape := ⟨3, ![384, 8, 3072]⟩
abbrev S1x1 : Shape := ⟨2, ![1, 1]⟩
abbrev S3 : Shape := ⟨1, ![3]⟩
abbrev S3x1 : Shape := ⟨2, ![3, 1]⟩
abbrev S1 : Shape := ⟨1, ![1]⟩
abbrev S1x1x1 : Shape := ⟨3, ![1, 1, 1]⟩
abbrev S3x15 : Shape := ⟨2, ![3, 15]⟩

abbrev nBuf : Space → Nat
  | .hbm => 16
  | .vmem => 14
  | .smem => 0
  | _ => 0

abbrev bufTy : (tb : Table) → Fin (tcTables nBuf tb) → BufTy
  | .hbm, ⟨0, _⟩ => ⟨S1x3072x3072, .bf16⟩
  | .hbm, ⟨1, _⟩ => ⟨S3072x2048, .bf16⟩
  | .hbm, ⟨2, _⟩ => ⟨S1x3072x2048, .bf16⟩
  | .hbm, ⟨3, _⟩ => ⟨S3x16, .f32⟩
  | .hbm, ⟨4, _⟩ => ⟨S3072x3072, .bf16⟩
  | .hbm, ⟨5, _⟩ => ⟨S3072x2048, .bf16⟩
  | .hbm, ⟨6, _⟩ => ⟨S384x8x2048, .bf16⟩
  | .hbm, ⟨7, _⟩ => ⟨S384x8x3072, .bf16⟩
  | .hbm, ⟨8, _⟩ => ⟨S3072x2048, .f32⟩
  | .hbm, ⟨9, _⟩ => ⟨S3072x3072, .fp8e4m3⟩
  | .hbm, ⟨10, _⟩ => ⟨S1x1, .f32⟩
  | .hbm, ⟨11, _⟩ => ⟨S3072x2048, .fp8e4m3⟩
  | .hbm, ⟨12, _⟩ => ⟨S1x1, .f32⟩
  | .hbm, ⟨13, _⟩ => ⟨S3072x2048, .fp8e5m2⟩
  | .hbm, ⟨14, _⟩ => ⟨S1x1, .f32⟩
  | .hbm, ⟨15, _⟩ => ⟨S3x16, .f32⟩
  | .local _ .vmem, ⟨0, _⟩ => ⟨S3x16, .f32⟩
  | .local _ .vmem, ⟨1, _⟩ => ⟨S3072x3072, .bf16⟩
  | .local _ .vmem, ⟨2, _⟩ => ⟨S3072x2048, .bf16⟩
  | .local _ .vmem, ⟨3, _⟩ => ⟨S3072x2048, .bf16⟩
  | .local _ .vmem, ⟨4, _⟩ => ⟨S384x8x2048, .bf16⟩
  | .local _ .vmem, ⟨5, _⟩ => ⟨S384x8x3072, .bf16⟩
  | .local _ .vmem, ⟨6, _⟩ => ⟨S3072x2048, .f32⟩
  | .local _ .vmem, ⟨7, _⟩ => ⟨S3072x3072, .fp8e4m3⟩
  | .local _ .vmem, ⟨8, _⟩ => ⟨S1x1, .f32⟩
  | .local _ .vmem, ⟨9, _⟩ => ⟨S3072x2048, .fp8e4m3⟩
  | .local _ .vmem, ⟨10, _⟩ => ⟨S1x1, .f32⟩
  | .local _ .vmem, ⟨11, _⟩ => ⟨S3072x2048, .fp8e5m2⟩
  | .local _ .vmem, ⟨12, _⟩ => ⟨S1x1, .f32⟩
  | .local _ .vmem, ⟨13, _⟩ => ⟨S3x16, .f32⟩
  | _, _ => ⟨S1x3072x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev main_v2_7 : Ref sig .tc := ⟨.hbm, 13, rfl⟩
abbrev main_v2_8 : Ref sig .tc := ⟨.hbm, 14, rfl⟩
abbrev main_v2_9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x8x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x8x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072x2048 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Frame.Kernel.lean ====
/- The frame of the kernel: every point of the grid runs, in each of the five cases its branch conditions leave, and leaves
   the inputs as they were; nothing is said of the outputs here. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Closed forms of the access offsets -/

theorem k0_off2_eq : ∀ i : grid0.Coords, k0_off2 i = ![0, ((512 * (i 0).val + 4294961152) % 4294967296), 0] := by decide +kernel
instance closedOff_k0_off2 (i : grid0.Coords) : ClosedOff (k0_off2 i) := ⟨![0, ((512 * (i 0).val + 4294961152) % 4294967296), 0], k0_off2_eq i⟩
theorem k0_off3_eq : ∀ i : grid0.Coords, k0_off3 i = ![1, ((512 * (i 0).val + 4294961152) % 4294967296), 0] := by decide +kernel
instance closedOff_k0_off3 (i : grid0.Coords) : ClosedOff (k0_off3 i) := ⟨![1, ((512 * (i 0).val + 4294961152) % 4294967296), 0], k0_off3_eq i⟩
theorem k0_off4_eq : ∀ i : grid0.Coords, k0_off4 i = ![2, ((512 * (i 0).val + 4294961152) % 4294967296), 0] := by decide +kernel
instance closedOff_k0_off4 (i : grid0.Coords) : ClosedOff (k0_off4 i) := ⟨![2, ((512 * (i 0).val + 4294961152) % 4294967296), 0], k0_off4_eq i⟩
theorem k0_off5_eq : ∀ i : grid0.Coords, k0_off5 i = ![3, ((512 * (i 0).val + 4294961152) % 4294967296), 0] := by decide +kernel
instance closedOff_k0_off5 (i : grid0.Coords) : ClosedOff (k0_off5 i) := ⟨![3, ((512 * (i 0).val + 4294961152) % 4294967296), 0], k0_off5_eq i⟩
theorem k0_off6_eq : ∀ i : grid0.Coords, k0_off6 i = ![4, ((512 * (i 0).val + 4294961152) % 4294967296), 0] := by decide +kernel
instance closedOff_k0_off6 (i : grid0.Coords) : ClosedOff (k0_off6 i) := ⟨![4, ((512 * (i 0).val + 4294961152) % 4294967296), 0], k0_off6_eq i⟩
theorem k0_off7_eq : ∀ i : grid0.Coords, k0_off7 i = ![5, ((512 * (i 0).val + 4294961152) % 4294967296), 0] := by decide +kernel
instance closedOff_k0_off7 (i : grid0.Coords) : ClosedOff (k0_off7 i) := ⟨![5, ((512 * (i 0).val + 4294961152) % 4294967296), 0], k0_off7_eq i⟩
theorem k0_off8_eq : ∀ i : grid0.Coords, k0_off8 i = ![6, ((512 * (i 0).val + 4294961152) % 4294967296), 0] := by decide +kernel
instance closedOff_k0_off8 (i : grid0.Coords) : ClosedOff (k0_off8 i) := ⟨![6, ((512 * (i 0).val + 4294961152) % 4294967296), 0], k0_off8_eq i⟩
theorem k0_off9_eq : ∀ i : grid0.Coords, k0_off9 i = ![7, ((512 * (i 0).val + 4294961152) % 4294967296), 0] := by decide +kernel
instance closedOff_k0_off9 (i : grid0.Coords) : ClosedOff (k0_off9 i) := ⟨![7, ((512 * (i 0).val + 4294961152) % 4294967296), 0], k0_off9_eq i⟩
theorem k0_off10_eq : ∀ i : grid0.Coords, k0_off10 i = ![8, ((512 * (i 0).val + 4294961152) % 4294967296), 0] := by decide +kernel
instance closedOff_k0_off10 (i : grid0.Coords) : ClosedOff (k0_off10 i) := ⟨![8, ((512 * (i 0).val + 4294961152) % 4294967296), 0], k0_off10_eq i⟩
theorem k0_off11_eq : ∀ i : grid0.Coords, k0_off11 i = ![9, ((512 * (i 0).val + 4294961152) % 4294967296), 0] := by decide +kernel
instance closedOff_k0_off11 (i : grid0.Coords) : ClosedOff (k0_off11 i) := ⟨![9, ((512 * (i 0).val + 4294961152) % 4294967296), 0], k0_off11_eq i⟩
theorem k0_off12_eq : ∀ i : grid0.Coords, k0_off12 i = ![10, ((512 * (i 0).val + 4294961152) % 4294967296), 0] := by decide +kernel
instance closedOff_k0_off12 (i : grid0.Coords) : ClosedOff (k0_off12 i) := ⟨![10, ((512 * (i 0).val + 4294961152) % 4294967296), 0], k0_off12_eq i⟩
theorem k0_off13_eq : ∀ i : grid0.Coords, k0_off13 i = ![11, ((512 * (i 0).val + 4294961152) % 4294967296), 0] := by decide +kernel
instance closedOff_k0_off13 (i : grid0.Coords) : ClosedOff (k0_off13 i) := ⟨![11, ((512 * (i 0).val + 4294961152) % 4294967296), 0], k0_off13_eq i⟩
theorem k0_off14_eq : ∀ i : grid0.Coords, k0_off14 i = ![((512 * (i 0).val + 4294961152) % 4294967296), 0] := by decide +kernel
instance closedOff_k0_off14 (i : grid0.Coords) : ClosedOff (k0_off14 i) := ⟨![((512 * (i 0).val + 4294961152) % 4294967296), 0], k0_off14_eq i⟩
theorem k0_off15_eq : ∀ i : grid0.Coords, k0_off15 i = ![(((i 0).val + 4294967278) % 4294967296), 0, 0] := by decide +kernel
instance closedOff_k0_off15 (i : grid0.Coords) : ClosedOff (k0_off15 i) := ⟨![(((i 0).val + 4294967278) % 4294967296), 0, 0], k0_off15_eq i⟩

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.quiescent_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c),
      (Pipeline.RDat.FramePost.arr_in h c 0 rfl).trans ((hA c 0).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-- The condition of the body's `scf.if` 1 (`k0_h2`), from the grid coordinates (the skeleton's scalar
    chain substituted). -/
abbrev cond0_1 (i : grid0.Coords) : Prop := k0_cond2 i = 1#1
/-- It holds at the points before point 12 — decided over the grid. -/
theorem hcond0_1 : ∀ t : Fin cfg0.N, cond0_1 (grid0.coords t) ↔ t.val < 12 :=
  (by decide +kernel : ∀ t : Fin grid0.N, cond0_1 (grid0.coords t) ↔ t.val < 12)

/-- The condition of the body's `scf.if` 2 (`k0_h3`), from the grid coordinates (the skeleton's scalar
    chain substituted). -/
abbrev cond0_2 (i : grid0.Coords) : Prop := k0_cond3 i = 1#1
/-- It holds at the points whose coordinates have 12 ≤ i0 and i0 ≤ 17 — decided over the grid. -/
theorem hcond0_2 : ∀ t : Fin cfg0.N, cond0_2 (grid0.coords t) ↔ (12 ≤ t.val % 30 ∧ t.val % 30 ≤ 17) :=
  (by decide +kernel : ∀ t : Fin grid0.N, cond0_2 (grid0.coords t) ↔ (12 ≤ t.val % 30 ∧ t.val % 30 ≤ 17))

/-- The condition of the body's `scf.if` 3 (`k0_h4`), from the grid coordinates (the skeleton's scalar
    chain substituted). -/
abbrev cond0_3 (i : grid0.Coords) : Prop := k0_cond4 i = 1#1
/-- It holds at point 17 only — by arithmetic of the point. -/
theorem hcond0_3 : ∀ t : Fin cfg0.N, cond0_3 (grid0.coords t) ↔ t.val % 30 = 17 :=
  (fun t => by
    have ht : t.val < 30 := Nat.lt_of_lt_of_eq t.isLt N_0
    have e0 : (grid0.coords t 0).val = t.val / 1 % 30 := Pipeline.Grid.coords_val t 0 (by decide) rfl
    simp only [cond0_3, k0_cond4, e0]
    word_cmp
   : ∀ t : Fin grid0.N, cond0_3 (grid0.coords t) ↔ t.val % 30 = 17)

/-- The condition of the body's `scf.if` 4 (`k0_h5`), from the grid coordinates (the skeleton's scalar
    chain substituted). -/
abbrev cond0_4 (i : grid0.Coords) : Prop := k0_cond5 i = 1#1
/-- It holds at the points from point 18 on — decided over the grid. -/
theorem hcond0_4 : ∀ t : Fin cfg0.N, cond0_4 (grid0.coords t) ↔ 18 ≤ t.val :=
  (by decide +kernel : ∀ t : Fin grid0.N, cond0_4 (grid0.coords t) ↔ 18 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S3x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x8x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x8x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x3072 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x2048 .fp8e5m2 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x16 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S12x3072x256 .fp8e4m3 := Memref.whole cc0_scratch0
abbrev scM0_1 : Memref sig .tc .vmem S3072x2048 .fp8e4m3 := Memref.whole cc0_scratch1
abbrev scM0_2 : Memref sig .tc .vmem S3072x2048 .fp8e5m2 := Memref.whole cc0_scratch2
abbrev scM0_3 : Memref sig .tc .vmem S16x3072 .bf16 := Memref.whole cc0_scratch3
abbrev scM0_4 : Memref sig .tc .vmem S16x2048 .bf16 := Memref.whole cc0_scratch4
abbrev scM0_5 : Memref sig .tc .vmem S16x2048 .bf16 := Memref.whole cc0_scratch5
abbrev scM0_6 : Memref sig .tc .vmem S8x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The five ways the body's conditions can fall at a point of the grid: the first point, the other weight points, the row
    points, the last row point, the points of the weight gradient. -/
def Case (i : grid0.Coords) : Prop :=
  (cond0_0 i ∧ cond0_1 i ∧ ¬cond0_2 i ∧ ¬cond0_3 i ∧ ¬cond0_4 i)
  ∨ (¬cond0_0 i ∧ cond0_1 i ∧ ¬cond0_2 i ∧ ¬cond0_3 i ∧ ¬cond0_4 i)
  ∨ (¬cond0_0 i ∧ ¬cond0_1 i ∧ cond0_2 i ∧ ¬cond0_3 i ∧ ¬cond0_4 i)
  ∨ (¬cond0_0 i ∧ ¬cond0_1 i ∧ cond0_2 i ∧ cond0_3 i ∧ ¬cond0_4 i)
  ∨ (¬cond0_0 i ∧ ¬cond0_1 i ∧ ¬cond0_2 i ∧ ¬cond0_3 i ∧ cond0_4 i)

theorem case_at (t : Fin cfg0.N) : Case (grid0.coords t) := by
  have hN : t.val < 30 := lt_of_lt_of_eq t.isLt (show cfg0.N = 30 from N_0)
  unfold Case
  rw [hcond0_0, hcond0_1, hcond0_2, hcond0_3, hcond0_4]
  omega

-- (the run's proof term is large: checking it walks past the default budget)
set_option maxHeartbeats 8000000 in
/-- The body at a point, from any contents of the outputs and the scratch to some contents of them, in each of the five cases. -/
theorem kernelRun (c : Dev nD) (i : grid0.Coords) (arg1 : Memref sig .tc .vmem S3x16 .f32) (harg1 : arg1.IsWhole) (arg2 : Memref sig .tc .vmem S512x3072 .bf16) (harg2 : arg2.IsWhole) (arg3 : Memref sig .tc .vmem S256x2048 .bf16) (harg3 : arg3.IsWhole) (arg4 : Memref sig .tc .vmem S512x2048 .bf16) (harg4 : arg4.IsWhole) (arg5 : Memref sig .tc .vmem S64x8x2048 .bf16) (harg5 : arg5.IsWhole) (arg6 : Memref sig .tc .vmem S64x8x3072 .bf16) (harg6 : arg6.IsWhole) (arg7 : Memref sig .tc .vmem S256x2048 .f32) (harg7 : arg7.IsWhole) (arg8 : Memref sig .tc .vmem S512x3072 .fp8e4m3) (harg8 : arg8.IsWhole) (arg9 : Memref sig .tc .vmem S1x1 .f32) (harg9 : arg9.IsWhole) (arg10 : Memref sig .tc .vmem S256x2048 .fp8e4m3) (harg10 : arg10.IsWhole) (arg11 : Memref sig .tc .vmem S1x1 .f32) (harg11 : arg11.IsWhole) (arg12 : Memref sig .tc .vmem S512x2048 .fp8e5m2) (harg12 : arg12.IsWhole) (arg13 : Memref sig .tc .vmem S1x1 .f32) (harg13 : arg13.IsWhole) (arg14 : Memref sig .tc .vmem S3x16 .f32) (harg14 : arg14.IsWhole) (arg15 : Memref sig .tc .vmem S12x3072x256 .fp8e4m3) (harg15 : arg15.IsWhole) (arg16 : Memref sig .tc .vmem S3072x2048 .fp8e4m3) (harg16 : arg16.IsWhole) (arg17 : Memref sig .tc .vmem S3072x2048 .fp8e5m2) (harg17 : arg17.IsWhole) (arg18 : Memref sig .tc .vmem S16x3072 .bf16) (harg18 : arg18.IsWhole) (arg19 : Memref sig .tc .vmem S16x2048 .bf16) (harg19 : arg19.IsWhole) (arg20 : Memref sig .tc .vmem S16x2048 .bf16) (harg20 : arg20.IsWhole) (arg21 : Memref sig .tc .vmem S8x128 .f32) (harg21 : arg21.IsWhole) (hc : Case i)
    (x0 : Vec F S3x16 .f32) (x1 : Vec F S512x3072 .bf16) (x2 : Vec F S256x2048 .bf16) (x3 : Vec F S512x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0__step_kernel_eq_skeleton]; unfold cc0__step_kernel_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3
    rcases hc with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
    all_goals
      sl_exec (disch := first | sl_exact hc0 | sl_exact hc1 | sl_exact hc2 | sl_exact hc3 | sl_exact hc4)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      iexists _, _; isplitr; swap; · iexact HS6
      ipureintro; rfl

/-! ## The pipeline's proof data -/

/-- The output windows this certificate FORGETS (4, 5, 6, 7, 8, 9, 10, 11, 12, 13): nothing reads what the kernel leaves in them, so nothing
    of it is named (Lib/Pipeline/Dat.lean `Dat.toRForget`). -/
def forgets0 : Fin 14 → Bool := fun w => w.val == 4 || w.val == 5 || w.val == 6 || w.val == 7 || w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 10000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun c (grid0.coords t) _ _ _ _ _ _ _ _ _ _ _ _ _ _ _ _ _ _ _ _ _ _ _ _ _ _ _ _ _ _ _ _ _ _ _ _ _ _ _ _ _ _ (case_at t) (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7, 8, 9, 10, 11, 12, 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Frame.KernelIdeal.lean ====
/- The frame of the kernel: every point of the grid runs, in each of the five cases its branch conditions leave, and leaves
   the inputs as they were; nothing is said of the outputs here. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Closed forms of the access offsets -/

theorem k0_off2_eq : ∀ i : grid0.Coords, k0_off2 i = ![0, ((512 * (i 0).val + 4294961152) % 4294967296), 0] := by decide +kernel
instance closedOff_k0_off2 (i : grid0.Coords) : ClosedOff (k0_off2 i) := ⟨![0, ((512 * (i 0).val + 4294961152) % 4294967296), 0], k0_off2_eq i⟩
theorem k0_off3_eq : ∀ i : grid0.Coords, k0_off3 i = ![1, ((512 * (i 0).val + 4294961152) % 4294967296), 0] := by decide +kernel
instance closedOff_k0_off3 (i : grid0.Coords) : ClosedOff (k0_off3 i) := ⟨![1, ((512 * (i 0).val + 4294961152) % 4294967296), 0], k0_off3_eq i⟩
theorem k0_off4_eq : ∀ i : grid0.Coords, k0_off4 i = ![2, ((512 * (i 0).val + 4294961152) % 4294967296), 0] := by decide +kernel
instance closedOff_k0_off4 (i : grid0.Coords) : ClosedOff (k0_off4 i) := ⟨![2, ((512 * (i 0).val + 4294961152) % 4294967296), 0], k0_off4_eq i⟩
theorem k0_off5_eq : ∀ i : grid0.Coords, k0_off5 i = ![3, ((512 * (i 0).val + 4294961152) % 4294967296), 0] := by decide +kernel
instance closedOff_k0_off5 (i : grid0.Coords) : ClosedOff (k0_off5 i) := ⟨![3, ((512 * (i 0).val + 4294961152) % 4294967296), 0], k0_off5_eq i⟩
theorem k0_off6_eq : ∀ i : grid0.Coords, k0_off6 i = ![4, ((512 * (i 0).val + 4294961152) % 4294967296), 0] := by decide +kernel
instance closedOff_k0_off6 (i : grid0.Coords) : ClosedOff (k0_off6 i) := ⟨![4, ((512 * (i 0).val + 4294961152) % 4294967296), 0], k0_off6_eq i⟩
theorem k0_off7_eq : ∀ i : grid0.Coords, k0_off7 i = ![5, ((512 * (i 0).val + 4294961152) % 4294967296), 0] := by decide +kernel
instance closedOff_k0_off7 (i : grid0.Coords) : ClosedOff (k0_off7 i) := ⟨![5, ((512 * (i 0).val + 4294961152) % 4294967296), 0], k0_off7_eq i⟩
theorem k0_off8_eq : ∀ i : grid0.Coords, k0_off8 i = ![6, ((512 * (i 0).val + 4294961152) % 4294967296), 0] := by decide +kernel
instance closedOff_k0_off8 (i : grid0.Coords) : ClosedOff (k0_off8 i) := ⟨![6, ((512 * (i 0).val + 4294961152) % 4294967296), 0], k0_off8_eq i⟩
theorem k0_off9_eq : ∀ i : grid0.Coords, k0_off9 i = ![7, ((512 * (i 0).val + 4294961152) % 4294967296), 0] := by decide +kernel
instance closedOff_k0_off9 (i : grid0.Coords) : ClosedOff (k0_off9 i) := ⟨![7, ((512 * (i 0).val + 4294961152) % 4294967296), 0], k0_off9_eq i⟩
theorem k0_off10_eq : ∀ i : grid0.Coords, k0_off10 i = ![8, ((512 * (i 0).val + 4294961152) % 4294967296), 0] := by decide +kernel
instance closedOff_k0_off10 (i : grid0.Coords) : ClosedOff (k0_off10 i) := ⟨![8, ((512 * (i 0).val + 4294961152) % 4294967296), 0], k0_off10_eq i⟩
theorem k0_off11_eq : ∀ i : grid0.Coords, k0_off11 i = ![9, ((512 * (i 0).val + 4294961152) % 4294967296), 0] := by decide +kernel
instance closedOff_k0_off11 (i : grid0.Coords) : ClosedOff (k0_off11 i) := ⟨![9, ((512 * (i 0).val + 4294961152) % 4294967296), 0], k0_off11_eq i⟩
theorem k0_off12_eq : ∀ i : grid0.Coords, k0_off12 i = ![10, ((512 * (i 0).val + 4294961152) % 4294967296), 0] := by decide +kernel
instance closedOff_k0_off12 (i : grid0.Coords) : ClosedOff (k0_off12 i) := ⟨![10, ((512 * (i 0).val + 4294961152) % 4294967296), 0], k0_off12_eq i⟩
theorem k0_off13_eq : ∀ i : grid0.Coords, k0_off13 i = ![11, ((512 * (i 0).val + 4294961152) % 4294967296), 0] := by decide +kernel
instance closedOff_k0_off13 (i : grid0.Coords) : ClosedOff (k0_off13 i) := ⟨![11, ((512 * (i 0).val + 4294961152) % 4294967296), 0], k0_off13_eq i⟩
theorem k0_off14_eq : ∀ i : grid0.Coords, k0_off14 i = ![((512 * (i 0).val + 4294961152) % 4294967296), 0] := by decide +kernel
instance closedOff_k0_off14 (i : grid0.Coords) : ClosedOff (k0_off14 i) := ⟨![((512 * (i 0).val + 4294961152) % 4294967296), 0], k0_off14_eq i⟩
theorem k0_off15_eq : ∀ i : grid0.Coords, k0_off15 i = ![(((i 0).val + 4294967278) % 4294967296), 0, 0] := by decide +kernel
instance closedOff_k0_off15 (i : grid0.Coords) : ClosedOff (k0_off15 i) := ⟨![(((i 0).val + 4294967278) % 4294967296), 0, 0], k0_off15_eq i⟩

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.quiescent_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c),
      (Pipeline.RDat.FramePost.arr_in h c 0 rfl).trans ((hA c 0).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-- The condition of the body's `scf.if` 1 (`k0_h2`), from the grid coordinates (the skeleton's scalar
    chain substituted). -/
abbrev cond0_1 (i : grid0.Coords) : Prop := k0_cond2 i = 1#1
/-- It holds at the points before point 12 — decided over the grid. -/
theorem hcond0_1 : ∀ t : Fin cfg0.N, cond0_1 (grid0.coords t) ↔ t.val < 12 :=
  (by decide +kernel : ∀ t : Fin grid0.N, cond0_1 (grid0.coords t) ↔ t.val < 12)

/-- The condition of the body's `scf.if` 2 (`k0_h3`), from the grid coordinates (the skeleton's scalar
    chain substituted). -/
abbrev cond0_2 (i : grid0.Coords) : Prop := k0_cond3 i = 1#1
/-- It holds at the points whose coordinates have 12 ≤ i0 and i0 ≤ 17 — decided over the grid. -/
theorem hcond0_2 : ∀ t : Fin cfg0.N, cond0_2 (grid0.coords t) ↔ (12 ≤ t.val % 30 ∧ t.val % 30 ≤ 17) :=
  (by decide +kernel : ∀ t : Fin grid0.N, cond0_2 (grid0.coords t) ↔ (12 ≤ t.val % 30 ∧ t.val % 30 ≤ 17))

/-- The condition of the body's `scf.if` 3 (`k0_h4`), from the grid coordinates (the skeleton's scalar
    chain substituted). -/
abbrev cond0_3 (i : grid0.Coords) : Prop := k0_cond4 i = 1#1
/-- It holds at point 17 only — by arithmetic of the point. -/
theorem hcond0_3 : ∀ t : Fin cfg0.N, cond0_3 (grid0.coords t) ↔ t.val % 30 = 17 :=
  (fun t => by
    have ht : t.val < 30 := Nat.lt_of_lt_of_eq t.isLt N_0
    have e0 : (grid0.coords t 0).val = t.val / 1 % 30 := Pipeline.Grid.coords_val t 0 (by decide) rfl
    simp only [cond0_3, k0_cond4, e0]
    word_cmp
   : ∀ t : Fin grid0.N, cond0_3 (grid0.coords t) ↔ t.val % 30 = 17)

/-- The condition of the body's `scf.if` 4 (`k0_h5`), from the grid coordinates (the skeleton's scalar
    chain substituted). -/
abbrev cond0_4 (i : grid0.Coords) : Prop := k0_cond5 i = 1#1
/-- It holds at the points from point 18 on — decided over the grid. -/
theorem hcond0_4 : ∀ t : Fin cfg0.N, cond0_4 (grid0.coords t) ↔ 18 ≤ t.val :=
  (by decide +kernel : ∀ t : Fin grid0.N, cond0_4 (grid0.coords t) ↔ 18 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S3x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x8x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x8x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x3072 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x2048 .fp8e5m2 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x16 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S12x3072x256 .fp8e4m3 := Memref.whole cc0_scratch0
abbrev scM0_1 : Memref sig .tc .vmem S3072x2048 .fp8e4m3 := Memref.whole cc0_scratch1
abbrev scM0_2 : Memref sig .tc .vmem S3072x2048 .fp8e5m2 := Memref.whole cc0_scratch2
abbrev scM0_3 : Memref sig .tc .vmem S16x3072 .bf16 := Memref.whole cc0_scratch3
abbrev scM0_4 : Memref sig .tc .vmem S16x2048 .bf16 := Memref.whole cc0_scratch4
abbrev scM0_5 : Memref sig .tc .vmem S16x2048 .bf16 := Memref.whole cc0_scratch5
abbrev scM0_6 : Memref sig .tc .vmem S8x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The five ways the body's conditions can fall at a point of the grid: the first point, the other weight points, the row
    points, the last row point, the points of the weight gradient. -/
def Case (i : grid0.Coords) : Prop :=
  (cond0_0 i ∧ cond0_1 i ∧ ¬cond0_2 i ∧ ¬cond0_3 i ∧ ¬cond0_4 i)
  ∨ (¬cond0_0 i ∧ cond0_1 i ∧ ¬cond0_2 i ∧ ¬cond0_3 i ∧ ¬cond0_4 i)
  ∨ (¬cond0_0 i ∧ ¬cond0_1 i ∧ cond0_2 i ∧ ¬cond0_3 i ∧ ¬cond0_4 i)
  ∨ (¬cond0_0 i ∧ ¬cond0_1 i ∧ cond0_2 i ∧ cond0_3 i ∧ ¬cond0_4 i)
  ∨ (¬cond0_0 i ∧ ¬cond0_1 i ∧ ¬cond0_2 i ∧ ¬cond0_3 i ∧ cond0_4 i)

theorem case_at (t : Fin cfg0.N) : Case (grid0.coords t) := by
  have hN : t.val < 30 := lt_of_lt_of_eq t.isLt (show cfg0.N = 30 from N_0)
  unfold Case
  rw [hcond0_0, hcond0_1, hcond0_2, hcond0_3, hcond0_4]
  omega

-- (the run's proof term is large: checking it walks past the default budget)
set_option maxHeartbeats 8000000 in
/-- The body at a point, from any contents of the outputs and the scratch to some contents of them, in each of the five cases. -/
theorem bodyRun (c : Dev nD) (i : grid0.Coords) (arg1 : Memref sig .tc .vmem S3x16 .f32) (harg1 : arg1.IsWhole) (arg2 : Memref sig .tc .vmem S512x3072 .bf16) (harg2 : arg2.IsWhole) (arg3 : Memref sig .tc .vmem S256x2048 .bf16) (harg3 : arg3.IsWhole) (arg4 : Memref sig .tc .vmem S512x2048 .bf16) (harg4 : arg4.IsWhole) (arg5 : Memref sig .tc .vmem S64x8x2048 .bf16) (harg5 : arg5.IsWhole) (arg6 : Memref sig .tc .vmem S64x8x3072 .bf16) (harg6 : arg6.IsWhole) (arg7 : Memref sig .tc .vmem S256x2048 .f32) (harg7 : arg7.IsWhole) (arg8 : Memref sig .tc .vmem S512x3072 .fp8e4m3) (harg8 : arg8.IsWhole) (arg9 : Memref sig .tc .vmem S1x1 .f32) (harg9 : arg9.IsWhole) (arg10 : Memref sig .tc .vmem S256x2048 .fp8e4m3) (harg10 : arg10.IsWhole) (arg11 : Memref sig .tc .vmem S1x1 .f32) (harg11 : arg11.IsWhole) (arg12 : Memref sig .tc .vmem S512x2048 .fp8e5m2) (harg12 : arg12.IsWhole) (arg13 : Memref sig .tc .vmem S1x1 .f32) (harg13 : arg13.IsWhole) (arg14 : Memref sig .tc .vmem S3x16 .f32) (harg14 : arg14.IsWhole) (arg15 : Memref sig .tc .vmem S12x3072x256 .fp8e4m3) (harg15 : arg15.IsWhole) (arg16 : Memref sig .tc .vmem S3072x2048 .fp8e4m3) (harg16 : arg16.IsWhole) (arg17 : Memref sig .tc .vmem S3072x2048 .fp8e5m2) (harg17 : arg17.IsWhole) (arg18 : Memref sig .tc .vmem S16x3072 .bf16) (harg18 : arg18.IsWhole) (arg19 : Memref sig .tc .vmem S16x2048 .bf16) (harg19 : arg19.IsWhole) (arg20 : Memref sig .tc .vmem S16x2048 .bf16) (harg20 : arg20.IsWhole) (arg21 : Memref sig .tc .vmem S8x128 .f32) (harg21 : arg21.IsWhole) (hc : Case i)
    (x0 : Vec F S3x16 .f32) (x1 : Vec F S512x3072 .bf16) (x2 : Vec F S256x2048 .bf16) (x3 : Vec F S512x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0__step_kernel_eq_skeleton]; unfold cc0__step_kernel_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3
    rcases hc with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
    all_goals
      sl_exec (disch := first | sl_exact hc0 | sl_exact hc1 | sl_exact hc2 | sl_exact hc3 | sl_exact hc4)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      iexists _, _; isplitr; swap; · iexact HS6
      ipureintro; rfl

/-! ## The pipeline's proof data -/

/-- The output windows this certificate FORGETS (4, 5, 6, 7, 8, 9, 10, 11, 12, 13): nothing reads what the kernel leaves in them, so nothing
    of it is named (Lib/Pipeline/Dat.lean `Dat.toRForget`). -/
def forgets0 : Fin 14 → Bool := fun w => w.val == 4 || w.val == 5 || w.val == 6 || w.val == 7 || w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 10000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((bodyRun c (grid0.coords t) _ _ _ _ _ _ _ _ _ _ _ _ _ _ _ _ _ _ _ _ _ _ _ _ _ _ _ _ _ _ _ _ _ _ _ _ _ _ _ _ _ _ (case_at t) (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7, 8, 9, 10, 11, 12, 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_ofR m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Value.Scale.lean ====
/- The scale of a tensor. The kernel finds the binade of a number by counting the powers of two not above it and builds
   the scale and its inverse from exponent bits; the mathematics takes a floor of a logarithm and a power. They agree. -/
module

public import Idealize.ShloMosaic.Lib.Claim
public import Idealize.ShloMosaic.Lib.WordSum
public import Idealize.ShloMosaic.PureOps.Ideal.Laws

@[expose] public section

open Idealize Idealize.ShloMosaic

namespace Cert.Scale

/-- The value of an f32 bit pattern. -/
noncomputable abbrev lit (b : BitVec 32) : EReal := Ideal.ofBits .f32 b

theorem lit_zero : lit 0#32 = 0 := by simp [lit, Ideal.ofBits, Ideal.ieee]
theorem lit_top : lit 0x7F800000#32 = ⊤ := by simp [lit, Ideal.ofBits, Ideal.ieee]
theorem lit_one : lit 0x3F800000#32 = ((1 : ℝ) : EReal) := by
  simp [lit, Ideal.ofBits, Ideal.ieee, -EReal.coe_mul]; norm_num
theorem lit_two : lit 0x40000000#32 = ((2 : ℝ) : EReal) := by
  simp [lit, Ideal.ofBits, Ideal.ieee, -EReal.coe_mul]; norm_num
theorem lit_127 : lit 0x42FE0000#32 = ((127 : ℝ) : EReal) := by
  simp [lit, Ideal.ofBits, Ideal.ieee, -EReal.coe_mul]; norm_num
theorem lit_126 : lit 0x42FC0000#32 = ((126 : ℝ) : EReal) := by
  simp [lit, Ideal.ofBits, Ideal.ieee, -EReal.coe_mul]; norm_num
theorem lit_tiny : lit 0x00800000#32 = (((2 : ℝ) ^ (-126 : ℤ) : ℝ) : EReal) := by
  simp [lit, Ideal.ofBits, Ideal.ieee, -EReal.coe_mul]; norm_num

/-- The bits of the `k`-th exponent edge. -/
def edgeBits (k : ℕ) : BitVec 32 := BitVec.ofNat 32 k <<< 23

/-- The value of the `k`-th exponent edge. -/
noncomputable def edge (k : ℕ) : EReal := lit (edgeBits k)

theorem edge_zero : edge 0 = 0 := by rw [edge, show edgeBits 0 = 0#32 by decide, lit_zero]
theorem edge_255 : edge 255 = ⊤ := by rw [edge, show edgeBits 255 = 0x7F800000#32 by decide, lit_top]

theorem edge_fields : ∀ k : Fin 256, ((edgeBits k).extractLsb' 23 8).toNat = k.val
    ∧ ((edgeBits k).extractLsb' 0 23).toNat = 0 ∧ ((edgeBits k).extractLsb' 31 1 == 1#1) = false := by decide

theorem edge_mid (k : ℕ) (h1 : 1 ≤ k) (h2 : k ≤ 254) : edge k = (((2 : ℝ) ^ ((k : ℤ) - 127) : ℝ) : EReal) := by
  obtain ⟨e1, e2, e3⟩ := edge_fields ⟨k, by omega⟩
  simp only at e1 e2 e3
  unfold edge lit Ideal.ofBits Ideal.ieee
  simp only [show 8 + 23 = 31 from rfl, e1, e2, e3]
  rw [if_neg (by norm_num; omega), if_neg (by omega)]
  rw [EReal.coe_eq_coe_iff]
  have e : (k : ℤ) - (2 ^ (8 - 1) - 1) - ((23 : ℕ) : ℤ) = (k : ℤ) - 150 := by norm_num; ring
  have h23 : (2 : ℝ) ^ (23 : ℤ) = 8388608 := by norm_num
  have hn : (((2 ^ 23 + 0 : ℕ) : ℝ)) = 8388608 := by norm_num
  rw [show (k : ℤ) - 127 = ((k : ℤ) - 150) + 23 by ring, zpow_add₀ (by norm_num), e, h23, hn]
  simp only [Bool.false_eq_true, if_false]
  rw [one_mul, mul_comm]

/-- The magnitude the exponent is taken of. -/
noncomputable def mag (a c : EReal) : EReal := max (a * c) (-(a * c))

theorem mag_nonneg (a c : EReal) : 0 ≤ mag a c := by
  unfold mag
  rcases le_total 0 (a * c) with h | h
  · exact le_max_of_le_left h
  · exact le_max_of_le_right (EReal.neg_nonneg.mpr h)

/-- The exponent, as the mathematics writes it. -/
noncomputable def expo (t : EReal) : EReal :=
  Scalar.select (IntOp.andi (Ideal.cmp .oge t (lit 0x00800000#32)) (Ideal.cmp .olt t (lit 0x7F800000#32)))
    (Ideal.liftRound Int.floor (Ideal.div (Ideal.log t) (Ideal.log (lit 0x40000000#32))) + lit 0x3F800000#32) (lit 0#32)

/-- The scale, as the mathematics writes it. -/
noncomputable def scale (t : EReal) : EReal :=
  Scalar.select (Ideal.cmp .ogt (expo t) (lit 0x42FE0000#32)) (lit 0x7F800000#32) (Ideal.pow (lit 0x40000000#32) (expo t))

/-- The inverse of the scale, as the mathematics writes it. -/
noncomputable def inv (t : EReal) : EReal :=
  Scalar.select (Ideal.cmp .ogt (expo t) (lit 0x42FC0000#32)) (lit 0#32)
    (Ideal.pow (lit 0x40000000#32) (lit 0#32 - expo t))

theorem select_ofBool {α : Type} (b : Bool) (x y : α) : Scalar.select (BitVec.ofBool b) x y = if b then x else y := by
  cases b <;> simp [Scalar.select]

theorem expo_eq (t : EReal) (ht : 0 ≤ t) :
    (∃ (r : ℝ) (z : ℤ), t = r ∧ (2 : ℝ) ^ (-126 : ℤ) ≤ r ∧ z = ⌊Real.log r * (Real.log 2)⁻¹⌋ ∧ expo t = (((z : ℝ) + 1 : ℝ) : EReal))
    ∨ ((t = ⊤ ∨ t < (((2 : ℝ) ^ (-126 : ℤ) : ℝ) : EReal)) ∧ expo t = 0) := by
  have hand : ∀ p q : Bool, IntOp.andi (BitVec.ofBool p) (BitVec.ofBool q) = BitVec.ofBool (p && q) := by decide
  unfold expo
  rw [lit_tiny, lit_top, lit_one, lit_two, lit_zero]
  simp only [Ideal.cmp]
  rw [hand, select_ofBool]
  induction t using EReal.rec with
  | bot => exact absurd ht (by simp)
  | top => right; simp
  | coe r =>
    by_cases h : (2 : ℝ) ^ (-126 : ℤ) ≤ r
    · left
      have hr : 0 < r := lt_of_lt_of_le (by positivity) h
      refine ⟨r, ⌊Real.log r * (Real.log 2)⁻¹⌋, rfl, h, rfl, ?_⟩
      rw [if_pos (by simp only [Bool.and_eq_true, decide_eq_true_eq]; exact ⟨EReal.coe_le_coe_iff.mpr h, EReal.coe_lt_top r⟩)]
      have hl2 : Real.log 2 ≠ 0 := by positivity
      have hlog : ∀ x : ℝ, 0 < x → Ideal.log (x : EReal) = ((Real.log x : ℝ) : EReal) := fun x hx => by
        show (if x ≤ 0 then (⊥ : EReal) else (Real.log x : EReal)) = _
        rw [if_neg (not_le.mpr hx)]
      rw [hlog r hr, hlog 2 (by norm_num), Ideal.div, if_neg (by exact_mod_cast hl2), ← EReal.coe_inv, ← EReal.coe_mul]
      show (((⌊Real.log r * (Real.log 2)⁻¹⌋ : ℝ) : EReal)) + ((1 : ℝ) : EReal) = _
      rw [← EReal.coe_add]
    · right
      have h := not_le.mp h
      refine ⟨Or.inr (EReal.coe_lt_coe_iff.mpr h), ?_⟩
      rw [if_neg]
      simp only [Bool.and_eq_true, decide_eq_true_eq, not_and]
      intro h'
      exact absurd (EReal.coe_le_coe_iff.mp h') (not_le.mpr h)

/-- How many exponent edges are not above `t`. -/
noncomputable def count (t : EReal) : ℕ := (Finset.univ.filter fun k : Fin 256 => ¬ t < edge k.val).card

theorem count_le (t : EReal) : count t ≤ 256 := (Finset.card_filter_le _ _).trans (by simp)

theorem count_of (t : EReal) (n : ℕ) (hn : n ≤ 256) (h : ∀ k : Fin 256, (¬ t < edge k.val) ↔ k.val < n) : count t = n := by
  unfold count
  rw [Finset.filter_congr fun k _ => h k]
  rw [show (Finset.univ.filter fun k : Fin 256 => k.val < n) = (Finset.univ : Finset (Fin n)).map
      ⟨fun i => ⟨i.val, by omega⟩, fun a b h => Fin.ext (Fin.mk.inj h)⟩ from ?_]
  · simp
  · ext k
    simp only [Finset.mem_filter, Finset.mem_univ, true_and, Finset.mem_map, Function.Embedding.coeFn_mk]
    constructor
    · intro hk; exact ⟨⟨k.val, hk⟩, rfl⟩
    · rintro ⟨i, rfl⟩; exact i.isLt

theorem count_top : count ⊤ = 256 := count_of _ _ le_rfl fun k => by simp

theorem count_small (t : EReal) (ht : 0 ≤ t) (h : t < (((2 : ℝ) ^ (-126 : ℤ) : ℝ) : EReal)) : count t = 1 := by
  refine count_of _ _ (by norm_num) fun k => ?_
  rcases Nat.eq_zero_or_pos k.val with hk | hk
  · rw [hk, edge_zero]; simpa using ht
  · constructor
    · intro hn
      exfalso; apply hn
      by_cases h5 : k.val = 255
      · rw [h5, edge_255]; exact h.trans (EReal.coe_lt_top _)
      · rw [edge_mid _ hk (by omega)]
        refine h.trans_le (EReal.coe_le_coe_iff.mpr (zpow_le_zpow_right₀ (by norm_num) (by omega)))
    · intro hn; omega

theorem count_real (r : ℝ) (z : ℤ) (h : (2 : ℝ) ^ (-126 : ℤ) ≤ r) (hz : z = ⌊Real.log r * (Real.log 2)⁻¹⌋) :
    -126 ≤ z ∧ count r = (min (z + 128) 255).toNat := by
  have hr : 0 < r := lt_of_lt_of_le (by positivity) h
  have key : ∀ w : ℤ, (2 : ℝ) ^ w ≤ r ↔ w ≤ z := fun w => by
    have hl : 0 < Real.log 2 := Real.log_pos (by norm_num)
    rw [hz, Int.le_floor, ← div_eq_mul_inv, le_div_iff₀ hl, ← Real.log_zpow,
      Real.log_le_log_iff (by positivity) hr]
  have h1 : -126 ≤ z := (key _).mp h
  refine ⟨h1, count_of _ _ (by omega) fun k => ?_⟩
  rcases Nat.eq_zero_or_pos k.val with hk | hk
  · rw [hk, edge_zero]
    refine iff_of_true (not_lt.mpr (by exact_mod_cast hr.le)) (by omega)
  · by_cases h5 : k.val = 255
    · rw [h5, edge_255]
      refine iff_of_false (not_not.mpr (EReal.coe_lt_top r)) (by omega)
    · rw [edge_mid _ hk (by omega), not_lt, EReal.coe_le_coe_iff, key]
      omega

/-! The kernel's integers. -/

/-- The exponent from the biased exponent. -/
def kexpo (b : BitVec 32) : BitVec 32 :=
  Scalar.select (IntOp.ori (IntOp.cmpi .eq b 0#32) (IntOp.cmpi .eq b 255#32)) 0#32 (IntOp.subi b 126#32)

/-- The bits of the scale from the exponent. -/
def kscale (e : BitVec 32) : BitVec 32 :=
  Scalar.select (IntOp.cmpi .sle (IntOp.addi 127#32 e) 0#32) 0#32
    (IntOp.shli .vector (IntOp.minsi (IntOp.addi 127#32 e) 255#32) 23#32)

/-- The bits of the inverse from the exponent. -/
def kinv (e : BitVec 32) : BitVec 32 :=
  Scalar.select (IntOp.cmpi .sle (IntOp.subi 127#32 e) 0#32) 0#32
    (IntOp.shli .vector (IntOp.minsi (IntOp.subi 127#32 e) 255#32) 23#32)

theorem kbits : ∀ n : Fin 257, 1 ≤ n.val →
    kscale (kexpo (IntOp.subi (BitVec.ofNat 32 n) 1#32)) = edgeBits (if n.val = 1 ∨ n.val = 256 then 127 else n.val)
    ∧ kinv (kexpo (IntOp.subi (BitVec.ofNat 32 n) 1#32)) = edgeBits (if n.val = 1 ∨ n.val = 256 then 127 else 254 - n.val) := by
  decide

/-- The word of the count, less one: the biased exponent. -/
noncomputable def biased (t : EReal) : BitVec 32 := IntOp.subi (BitVec.ofNat 32 (count t)) 1#32

theorem edge_127 : edge 127 = ((1 : ℝ) : EReal) := by rw [edge_mid 127 (by norm_num) (by norm_num)]; norm_num

theorem pow_two (y : ℝ) : Ideal.pow ((2 : ℝ) : EReal) (y : EReal) = (((2 : ℝ) ^ y : ℝ) : EReal) := rfl

theorem scale_zero (t : EReal) (h : expo t = 0) : scale t = ((1 : ℝ) : EReal) := by
  unfold scale
  rw [h, lit_two, lit_127]
  rw [show (0 : EReal) = ((0 : ℝ) : EReal) from rfl, pow_two]
  simp only [Ideal.cmp]
  rw [select_ofBool, if_neg]
  · norm_num
  · simp only [decide_eq_true_eq, not_lt]; exact EReal.coe_le_coe_iff.mpr (by norm_num)

theorem inv_zero (t : EReal) (h : expo t = 0) : inv t = ((1 : ℝ) : EReal) := by
  unfold inv
  rw [h, lit_two, lit_126, lit_zero]
  rw [show (0 : EReal) - 0 = ((0 : ℝ) : EReal) by simp, pow_two]
  simp only [Ideal.cmp]
  rw [select_ofBool, if_neg]
  · norm_num
  · simp only [decide_eq_true_eq, not_lt]; rw [show (0 : EReal) = ((0 : ℝ) : EReal) from rfl]; exact EReal.coe_le_coe_iff.mpr (by norm_num)

/-- The scale from the exponent bits is the power of two. -/
theorem scale_eq (t : EReal) (ht : 0 ≤ t) : lit (kscale (kexpo (biased t))) = scale t ∧ lit (kinv (kexpo (biased t))) = inv t := by
  unfold biased
  rcases expo_eq t ht with ⟨r, z, rfl, h, hz, he⟩ | ⟨hs, he⟩
  · obtain ⟨h1, hc⟩ := count_real r z h hz
    rw [hc]
    obtain ⟨e1, e2⟩ := kbits ⟨(min (z + 128) 255).toNat, by omega⟩ (by simp only; omega)
    simp only at e1 e2
    rw [e1, e2, if_neg (by omega), if_neg (by omega)]
    show edge _ = _ ∧ edge _ = _
    unfold scale inv
    rw [he, lit_two, lit_127, lit_126, lit_zero, lit_top, pow_two]
    have hsub : (0 : EReal) - (((z : ℝ) + 1 : ℝ) : EReal) = ((-((z : ℝ) + 1) : ℝ) : EReal) := by
      rw [zero_sub, EReal.coe_neg]
    rw [hsub, pow_two]
    simp only [Ideal.cmp]
    rw [select_ofBool, select_ofBool]
    simp only [decide_eq_true_eq, EReal.coe_lt_coe_iff]
    constructor
    · by_cases hb : 127 ≤ z
      · rw [if_pos (by have : (127 : ℝ) ≤ z := by exact_mod_cast hb
                       linarith), show (min (z + 128) 255).toNat = 255 by omega, edge_255]
      · have hb' : (z : ℝ) ≤ 126 := by exact_mod_cast (by omega : z ≤ 126)
        rw [if_neg (by linarith), edge_mid _ (by omega) (by omega)]
        congr 1
        rw [show ((((min (z + 128) 255).toNat : ℕ) : ℤ) - 127) = z + 1 by omega, ← Real.rpow_intCast]
        push_cast; rfl
    · by_cases hb : 126 ≤ z
      · rw [if_pos (by have : (126 : ℝ) ≤ z := by exact_mod_cast hb
                       linarith), show 254 - (min (z + 128) 255).toNat = 0 by omega, edge_zero]
      · have hb' : (z : ℝ) ≤ 125 := by exact_mod_cast (by omega : z ≤ 125)
        rw [if_neg (by linarith), edge_mid _ (by omega) (by omega)]
        congr 1
        rw [show (((254 - (min (z + 128) 255).toNat : ℕ) : ℤ) - 127) = -(z + 1) by omega, ← Real.rpow_intCast]
        push_cast; rfl
  · rw [scale_zero t he, inv_zero t he]
    rcases hs with rfl | hs
    · rw [count_top]
      obtain ⟨e1, e2⟩ := kbits ⟨256, by omega⟩ (by simp only; omega)
      simp only at e1 e2
      rw [e1, e2, if_pos (by simp), if_pos (by simp)]
      exact ⟨edge_127, edge_127⟩
    · rw [count_small t ht hs]
      obtain ⟨e1, e2⟩ := kbits ⟨1, by omega⟩ (by simp only; omega)
      simp only at e1 e2
      rw [e1, e2, if_pos (by simp), if_pos (by simp)]
      exact ⟨edge_127, edge_127⟩

/-- At an abs-max of zero the kernel sets the exponent to zero; the edges gave zero already. -/
theorem kexpo_of_zero (a c : EReal) (h : a = 0) : kexpo (biased (mag a c)) = 0#32 := by
  have : mag a c = 0 := by simp [mag, h]
  rw [this, biased, count_small 0 le_rfl (by exact_mod_cast (by positivity : (0 : ℝ) < 2 ^ (-126 : ℤ)))]
  decide

end Cert.Scale
-- ==== Proof.Value.Spec.lean ====
/- What both programs compute, written index by index over the extended reals. -/
module

public import proofs.«01_k».proof.Proof.Value.Scale
public import Idealize.ShloMosaic.Lib.ValueIdx

@[expose] public section

open Idealize Idealize.ShloMosaic Idealize.ShloMosaic.ValueIdx
open Cert.Scale

namespace Cert.Spec

abbrev SH : Shape := ⟨2, ![3, 16]⟩
abbrev SX : Shape := ⟨2, ![3072, 3072]⟩
abbrev SW : Shape := ⟨2, ![3072, 2048]⟩

variable (H : SH.Idx → EReal) (X : SX.Idx → EReal) (W D : SW.Idx → EReal)

/-- The reciprocal of the largest value of the format of tensor `k`. -/
noncomputable def recip (k : Fin 3) : EReal := if k.val = 2 then lit 0x37924925#32 else lit 0x3B124925#32

/-- The largest entry of row `k` of the history. -/
noncomputable def amax (k : Fin 3) : EReal := (Finset.univ : Finset (Fin 16)).fold max (lit 0xFF800000#32) fun l => H (ix2 k l)

/-- The scale of tensor `k`. -/
noncomputable def sc (k : Fin 3) : EReal := scale (mag (amax H k) (recip k))

/-- Its inverse. -/
noncomputable def iv (k : Fin 3) : EReal := inv (mag (amax H k) (recip k))

/-- A value scaled and clipped to the range of the e4m3 format. -/
noncomputable def code (v i : EReal) : EReal := min (lit 0x43E00000#32) (max (lit 0xC3E00000#32) (v * i))

/-- A value scaled and clipped to the range of the e5m2 format. -/
noncomputable def codeG (v i : EReal) : EReal := min (lit 0x47600000#32) (max (lit 0xC7600000#32) (v * i))

noncomputable def xq : SX.Idx → EReal := fun i => code (X i) (iv H 0)
noncomputable def wq : SW.Idx → EReal := fun i => code (W i) (iv H 1)
noncomputable def dq : SW.Idx → EReal := fun i => codeG (D i) (iv H 2)

/-- The forward product. -/
noncomputable def y (r : Fin 3072) (c : Fin 2048) : EReal :=
  (∑ k : Fin 3072, xq H X (ix2 r k) * wq H W (ix2 k c)) * (sc H 0 * sc H 1)

/-- The gradient of the activations. -/
noncomputable def dx (r : Fin 3072) (c : Fin 3072) : EReal :=
  (∑ k : Fin 2048, dq H D (ix2 r k) * wq H W (ix2 c k)) * (sc H 2 * sc H 1)

/-- The gradient of the weights. -/
noncomputable def dw (r : Fin 3072) (c : Fin 2048) : EReal :=
  (∑ k : Fin 3072, xq H X (ix2 k r) * dq H D (ix2 k c)) * (sc H 0 * sc H 2)

/-- The magnitude of a value. -/
noncomputable def ab (v : EReal) : EReal := max v (-v)

theorem ab_nonneg (v : EReal) : 0 ≤ ab v := by
  unfold ab
  rcases le_total 0 v with h | h
  · exact le_max_of_le_left h
  · exact le_max_of_le_right (EReal.neg_nonneg.mpr h)

/-- The largest magnitude of a tensor. -/
noncomputable def top {s : Shape} (f : s.Idx → EReal) : EReal := (Finset.univ : Finset s.Idx).fold max ⊥ fun i => ab (f i)

theorem top_le {s : Shape} (f : s.Idx → EReal) (b : EReal) : top f ≤ b ↔ ∀ i, ab (f i) ≤ b := by
  unfold top; rw [Finset.fold_max_le]; simp

/-- Two numbers with the same upper bounds among those not below zero are one, when neither is below zero. -/
theorem eq_of_bounds {u v : EReal} (hu : 0 ≤ u) (hv : 0 ≤ v) (h : ∀ b, 0 ≤ b → (u ≤ b ↔ v ≤ b)) : u = v :=
  le_antisymm ((h v hv).mpr le_rfl) ((h u hu).mp le_rfl)

/-- The new column of the history. -/
noncomputable def newest (k : Fin 3) : EReal := if k.val = 0 then top X else if k.val = 1 then top W else top D

/-- The new history: the newest column in front, the oldest dropped. -/
noncomputable def nh (k : Fin 3) (l : Fin 16) : EReal :=
  if l.val = 0 then newest X W D k else H (ix2 k ⟨l.val - 1, by omega⟩)

theorem lit_bot : lit 0xFF800000#32 = ⊥ := by simp [lit, Ideal.ofBits, Ideal.ieee]
theorem lit_bot16 : Ideal.ofBits .bf16 0xFF80#16 = ⊥ := by simp [Ideal.ofBits, Ideal.ieee]
theorem lit_zero16 : Ideal.ofBits .bf16 0x0000#16 = 0 := by simp [Ideal.ofBits, Ideal.ieee]

/-- A reduction by maximum from the least value, bounded. -/
theorem red_le {s t : Shape} {φ : FTy} {axes : List (Fin s.rank)} (src : FVec Ideal s φ) (acc : BitVec φ.bits) (h : s.Reduces axes t)
    (hφ : FKind.Formats φ) (hacc : acc = FKind.maximumf.neutral φ hφ) (hbot : Ideal.ofBits φ acc = ⊥) (j : t.Idx) (b : EReal) :
    multiReduction (F := Ideal) .maximumf axes t src acc h hφ hacc j ≤ b ↔ ∀ i, h.drop i = j → src i ≤ b := by
  rw [multiReduction_maximumf_eq_fold]
  refine (Finset.fold_max_le (b := (Ideal.ofBits φ acc : EReal)) (f := src) (s := Finset.univ.filter fun i => h.drop i = j) b).trans ?_
  rw [hbot]; simp

/-- Into a shape of one entry it bounds every entry. -/
theorem red_all_le {s t : Shape} {φ : FTy} {axes : List (Fin s.rank)} (src : FVec Ideal s φ) (acc : BitVec φ.bits) (h : s.Reduces axes t)
    (ht : ∀ a, t.size a = 1)
    (hφ : FKind.Formats φ) (hacc : acc = FKind.maximumf.neutral φ hφ) (hbot : Ideal.ofBits φ acc = ⊥) (j : t.Idx) (b : EReal) :
    multiReduction (F := Ideal) .maximumf axes t src acc h hφ hacc j ≤ b ↔ ∀ i, src i ≤ b := by
  rw [red_le _ _ _ _ _ hbot]
  refine forall_congr' fun i => ?_
  have : h.drop i = j := funext fun a => Fin.ext (by
    have := (h.drop i a).isLt; have := (j a).isLt; have := ht a; omega)
  simp [this]

/-- A bound on every entry of a reshaped vector is one on every entry of the vector. -/
theorem cast_all {s t : Shape} {α : Type} (v : s.Idx → α) (h : s.ShapeCasts t) (P : α → Prop) : (∀ i, P (shapeCast t v h i)) ↔ ∀ i, P (v i) :=
  ⟨fun hv i => by
    have := hv (Shape.reshapeEquiv h.symm i)
    unfold shapeCast at this
    rwa [Shape.reshapeEquiv_reshapeEquiv, Shape.reshapeEquiv_self] at this, fun hv i => hv _⟩

theorem top_nonneg {s : Shape} (f : s.Idx → EReal) (i : s.Idx) : 0 ≤ top f := (ab_nonneg _).trans ((top_le f _).mp le_rfl i)

end Cert.Spec
-- ==== Proof.Value.Blocks.lean ====
/- The blocks the pipeline moves, index by index. -/
module

public import proofs.«01_k».proof.Proof.Frame.KernelIdeal
public import proofs.«01_k».proof.Proof.Value.Spec
public import Idealize.ShloMosaic.Lib.Pipeline.Value
public import Idealize.ShloMosaic.Lib.Pipeline.ValueKit.Geometry

@[expose] public section

set_option maxRecDepth 16384

open Idealize Idealize.ShloMosaic Idealize.ShloMosaic.ValueIdx
open Cert.Scale Cert.Spec Cert.KernelIdeal Cert.KernelIdeal.Gen

namespace Cert.KernelIdeal.Val

variable (m : (b : Loc nD τ sig) → Buf (Elt Ideal) b) (c : Dev nD)

/-- The four arrays the region reads. -/
noncomputable def H : Vec Ideal S3x16 .f32 := V m c (Pipeline.arrRef spec0 0)
noncomputable def X : Vec Ideal S3072x3072 .bf16 := V m c (Pipeline.arrRef spec0 1)
noncomputable def W : Vec Ideal S3072x2048 .bf16 := V m c (Pipeline.arrRef spec0 2)
noncomputable def D : Vec Ideal S3072x2048 .bf16 := V m c (Pipeline.arrRef spec0 3)

theorem N30 (t : Fin cfg0.N) : t.val < 30 := lt_of_lt_of_eq t.isLt (show cfg0.N = 30 from N_0)

/-! ### The block each window is at -/

theorem index_1 : ∀ t : Fin cfg0.N, (cfg0.win 1).index t 0 = min (t.val - 12) 5 ∧ (cfg0.win 1).index t 1 = 0 := by decide +kernel
theorem index_2 : ∀ t : Fin cfg0.N, (cfg0.win 2).index t 0 = min t.val 11 ∧ (cfg0.win 2).index t 1 = 0 := by decide +kernel
theorem index_3 : ∀ t : Fin cfg0.N, (cfg0.win 3).index t 0 = min (t.val - 12) 5 ∧ (cfg0.win 3).index t 1 = 0 := by decide +kernel
theorem index_4 : ∀ t : Fin cfg0.N, (cfg0.win 4).index t 0 = min (t.val - 12) 5 ∧ (cfg0.win 4).index t 1 = 0 ∧ (cfg0.win 4).index t 2 = 0 := by decide +kernel
theorem index_5 : ∀ t : Fin cfg0.N, (cfg0.win 5).index t 0 = min (t.val - 12) 5 ∧ (cfg0.win 5).index t 1 = 0 ∧ (cfg0.win 5).index t 2 = 0 := by decide +kernel
theorem index_6 : ∀ t : Fin cfg0.N, (cfg0.win 6).index t 0 = t.val - 18 ∧ (cfg0.win 6).index t 1 = 0 := by decide +kernel
theorem index_7 : ∀ t : Fin cfg0.N, (cfg0.win 7).index t 0 = min (t.val - 12) 5 ∧ (cfg0.win 7).index t 1 = 0 := by decide +kernel
theorem index_9 : ∀ t : Fin cfg0.N, (cfg0.win 9).index t 0 = min t.val 11 ∧ (cfg0.win 9).index t 1 = 0 := by decide +kernel
theorem index_11 : ∀ t : Fin cfg0.N, (cfg0.win 11).index t 0 = min (t.val - 12) 5 ∧ (cfg0.win 11).index t 1 = 0 := by decide +kernel

/-! ### What the inputs' blocks hold -/

theorem iblk_0 (t : Fin cfg0.N) : (iblk m c 0 t : S3x16.Idx → EReal) = H m c := by
  funext i
  show V m c (Pipeline.arrRef spec0 0) (((cfg0.win 0).rect t).emb i) = V m c (Pipeline.arrRef spec0 0) i
  refine congrArg _ (Shape.idx_ext₂ ?_ ?_)
  · exact ((cfg0.win 0).rect_emb_val_of_index_zero t 0 rfl i)
  · exact ((cfg0.win 0).rect_emb_val_of_index_zero t 1 rfl i)

theorem iblk_1 (t : Fin cfg0.N) (r : Fin 512) (k : Fin 3072) (R : Fin 3072) (hR : R.val = 512 * min (t.val - 12) 5 + r.val) :
    (iblk m c 1 t : S512x3072.Idx → EReal) (ix2 r k) = X m c (ix2 R k) := by
  show V m c (Pipeline.arrRef spec0 1) (((cfg0.win 1).rect t).emb (ix2 r k)) = V m c (Pipeline.arrRef spec0 1) (ix2 R k)
  refine congrArg _ (Shape.idx_ext₂ ?_ ?_)
  · refine ((cfg0.win 1).rect_emb_val t (ix2 r k) 0).trans ?_
    rw [(index_1 t).1]
    show min (t.val - 12) 5 * 512 + r.val = R.val
    omega
  · refine ((cfg0.win 1).rect_emb_val t (ix2 r k) 1).trans ?_
    rw [(index_1 t).2]
    show 0 * 3072 + k.val = k.val
    omega

theorem iblk_2 (t : Fin cfg0.N) (r : Fin 256) (k : Fin 2048) (R : Fin 3072) (hR : R.val = 256 * min t.val 11 + r.val) :
    (iblk m c 2 t : S256x2048.Idx → EReal) (ix2 r k) = W m c (ix2 R k) := by
  show V m c (Pipeline.arrRef spec0 2) (((cfg0.win 2).rect t).emb (ix2 r k)) = V m c (Pipeline.arrRef spec0 2) (ix2 R k)
  refine congrArg _ (Shape.idx_ext₂ ?_ ?_)
  · refine ((cfg0.win 2).rect_emb_val t (ix2 r k) 0).trans ?_
    rw [(index_2 t).1]
    show min t.val 11 * 256 + r.val = R.val
    omega
  · refine ((cfg0.win 2).rect_emb_val t (ix2 r k) 1).trans ?_
    rw [(index_2 t).2]
    show 0 * 2048 + k.val = k.val
    omega

theorem iblk_3 (t : Fin cfg0.N) (r : Fin 512) (k : Fin 2048) (R : Fin 3072) (hR : R.val = 512 * min (t.val - 12) 5 + r.val) :
    (iblk m c 3 t : S512x2048.Idx → EReal) (ix2 r k) = D m c (ix2 R k) := by
  show V m c (Pipeline.arrRef spec0 3) (((cfg0.win 3).rect t).emb (ix2 r k)) = V m c (Pipeline.arrRef spec0 3) (ix2 R k)
  refine congrArg _ (Shape.idx_ext₂ ?_ ?_)
  · refine ((cfg0.win 3).rect_emb_val t (ix2 r k) 0).trans ?_
    rw [(index_3 t).1]
    show min (t.val - 12) 5 * 512 + r.val = R.val
    omega
  · refine ((cfg0.win 3).rect_emb_val t (ix2 r k) 1).trans ?_
    rw [(index_3 t).2]
    show 0 * 2048 + k.val = k.val
    omega

/-! ### The results, and what is left in each output's buffer -/

theorem row_lt (a : Fin 384) (b : Fin 8) : a.val * 8 + b.val < 3072 := by have := a.isLt; have := b.isLt; omega

noncomputable def O4 : S384x8x2048.Idx → EReal := fun i => y (H m c) (X m c) (W m c) ⟨(i 0).val * 8 + (i 1).val, row_lt (i 0) (i 1)⟩ (i 2)
noncomputable def O5 : S384x8x3072.Idx → EReal := fun i => dx (H m c) (W m c) (D m c) ⟨(i 0).val * 8 + (i 1).val, row_lt (i 0) (i 1)⟩ (i 2)
noncomputable def O6 : S3072x2048.Idx → EReal := fun i => dw (H m c) (X m c) (D m c) (i 0) (i 1)
noncomputable def O7 : S3072x3072.Idx → EReal := xq (H m c) (X m c)
noncomputable def O8 : S1x1.Idx → EReal := fun _ => sc (H m c) 0
noncomputable def O9 : S3072x2048.Idx → EReal := wq (H m c) (W m c)
noncomputable def O10 : S1x1.Idx → EReal := fun _ => sc (H m c) 1
noncomputable def O11 : S3072x2048.Idx → EReal := dq (H m c) (D m c)
noncomputable def O12 : S1x1.Idx → EReal := fun _ => sc (H m c) 2
noncomputable def O13 : S3x16.Idx → EReal := fun i => nh (H m c) (X m c) (W m c) (D m c) (i 0) (i 1)

/-- Block `k` of 64 rows of an array of 384, of 512 of 3072, of 256 of 3072 (the last block where `k` is beyond it). -/
def r64 (k : ℕ) (a : Fin 64) : Fin 384 := ⟨64 * min k 5 + a.val, by have := a.isLt; omega⟩
def r512 (k : ℕ) (a : Fin 512) : Fin 3072 := ⟨512 * min k 5 + a.val, by have := a.isLt; omega⟩
def r256 (k : ℕ) (a : Fin 256) : Fin 3072 := ⟨256 * min k 11 + a.val, by have := a.isLt; omega⟩

noncomputable def L4 (t : ℕ) : S64x8x2048.Idx → EReal := fun i => O4 m c (ix3 (r64 (t - 12) (i 0)) (i 1) (i 2))
noncomputable def L5 (t : ℕ) : S64x8x3072.Idx → EReal := fun i => O5 m c (ix3 (r64 (t - 12) (i 0)) (i 1) (i 2))
noncomputable def L6 (t : ℕ) : S256x2048.Idx → EReal := fun i => O6 m c (ix2 (r256 (t - 18) (i 0)) (i 1))
noncomputable def L7 (t : ℕ) : S512x3072.Idx → EReal := fun i => O7 m c (ix2 (r512 (t - 12) (i 0)) (i 1))
noncomputable def L9 (t : ℕ) : S256x2048.Idx → EReal := fun i => O9 m c (ix2 (r256 t (i 0)) (i 1))
noncomputable def L11 (t : ℕ) : S512x2048.Idx → EReal := fun i => O11 m c (ix2 (r512 (t - 12) (i 0)) (i 1))

theorem read_4 (t : Fin cfg0.N) (j : S64x8x2048.Idx) : L4 m c t.val j = O4 m c (((cfg0.win 4).rect t).emb j) := by
  have hN := N30 t
  have h0 : (((cfg0.win 4).rect t).emb j 0).val = _ := (cfg0.win 4).rect_emb_val t j 0
  have h1 : (((cfg0.win 4).rect t).emb j 1).val = _ := (cfg0.win 4).rect_emb_val t j 1
  have h2 : (((cfg0.win 4).rect t).emb j 2).val = _ := (cfg0.win 4).rect_emb_val t j 2
  rw [(index_4 t).1] at h0
  rw [(index_4 t).2.1] at h1
  rw [(index_4 t).2.2] at h2
  refine congrArg (O4 m c) (funext fun a => Fin.ext ?_)
  match a with
  | ⟨0, _⟩ =>
    refine Eq.trans ?_ h0.symm
    show 64 * min (t.val - 12) 5 + (j 0).val = min (t.val - 12) 5 * 64 + (j 0).val; omega
  | ⟨1, _⟩ =>
    refine Eq.trans ?_ h1.symm
    show (j 1).val = 0 * 8 + (j 1).val; omega
  | ⟨2, _⟩ =>
    refine Eq.trans ?_ h2.symm
    show (j 2).val = 0 * 2048 + (j 2).val; omega

theorem flush_4 : ∀ t : Fin cfg0.N, (cfg0.win 4).flush t = decide (12 ≤ t.val ∧ t.val < 17 ∨ t.val = 29) := by decide +kernel

theorem cover_4 (i : S384x8x2048.Idx) : ∃ t : Fin cfg0.N, (cfg0.win 4).flush t = true ∧ (cfg0.win 4).arr.view.emb i ∈ ((cfg0.win 4).blk t).view.set := by
  have hi : (i 0).val < 384 := (i 0).isLt
  obtain ⟨t, ht, hf⟩ : ∃ t : Fin cfg0.N, min (t.val - 12) 5 = (i 0).val / 64 ∧ (12 ≤ t.val ∧ t.val < 17 ∨ t.val = 29) := by
    by_cases h : (i 0).val / 64 < 5
    · exact ⟨⟨12 + (i 0).val / 64, by rw [show cfg0.N = 30 from N_0]; omega⟩, by show min (12 + (i 0).val / 64 - 12) 5 = _; omega, by show 12 ≤ 12 + (i 0).val / 64 ∧ 12 + (i 0).val / 64 < 17 ∨ 12 + (i 0).val / 64 = 29; omega⟩
    · exact ⟨⟨29, by rw [show cfg0.N = 30 from N_0]; omega⟩, by show min (29 - 12) 5 = _; omega, .inr rfl⟩
  refine ⟨t, by rw [flush_4]; exact decide_eq_true hf, ?_⟩
  rw [(cfg0.win 4).emb_mem_blk_iff]
  intro a
  match a with
  | ⟨0, _⟩ =>
    show (cfg0.win 4).index t 0 * 64 ≤ (i 0).val ∧ (i 0).val < (cfg0.win 4).index t 0 * 64 + 64
    rw [(index_4 t).1]; omega
  | ⟨1, _⟩ =>
    show (cfg0.win 4).index t 1 * 8 ≤ (i 1).val ∧ (i 1).val < (cfg0.win 4).index t 1 * 8 + 8
    rw [(index_4 t).2.1]; have : (i 1).val < 8 := (i 1).isLt; omega
  | ⟨2, _⟩ =>
    show (cfg0.win 4).index t 2 * 2048 ≤ (i 2).val ∧ (i 2).val < (cfg0.win 4).index t 2 * 2048 + 2048
    rw [(index_4 t).2.2]; have : (i 2).val < 2048 := (i 2).isLt; omega

theorem read_5 (t : Fin cfg0.N) (j : S64x8x3072.Idx) : L5 m c t.val j = O5 m c (((cfg0.win 5).rect t).emb j) := by
  have hN := N30 t
  have h0 : (((cfg0.win 5).rect t).emb j 0).val = _ := (cfg0.win 5).rect_emb_val t j 0
  have h1 : (((cfg0.win 5).rect t).emb j 1).val = _ := (cfg0.win 5).rect_emb_val t j 1
  have h2 : (((cfg0.win 5).rect t).emb j 2).val = _ := (cfg0.win 5).rect_emb_val t j 2
  rw [(index_5 t).1] at h0
  rw [(index_5 t).2.1] at h1
  rw [(index_5 t).2.2] at h2
  refine congrArg (O5 m c) (funext fun a => Fin.ext ?_)
  match a with
  | ⟨0, _⟩ =>
    refine Eq.trans ?_ h0.symm
    show 64 * min (t.val - 12) 5 + (j 0).val = min (t.val - 12) 5 * 64 + (j 0).val; omega
  | ⟨1, _⟩ =>
    refine Eq.trans ?_ h1.symm
    show (j 1).val = 0 * 8 + (j 1).val; omega
  | ⟨2, _⟩ =>
    refine Eq.trans ?_ h2.symm
    show (j 2).val = 0 * 3072 + (j 2).val; omega

theorem flush_5 : ∀ t : Fin cfg0.N, (cfg0.win 5).flush t = decide (12 ≤ t.val ∧ t.val < 17 ∨ t.val = 29) := by decide +kernel

theorem cover_5 (i : S384x8x3072.Idx) : ∃ t : Fin cfg0.N, (cfg0.win 5).flush t = true ∧ (cfg0.win 5).arr.view.emb i ∈ ((cfg0.win 5).blk t).view.set := by
  have hi : (i 0).val < 384 := (i 0).isLt
  obtain ⟨t, ht, hf⟩ : ∃ t : Fin cfg0.N, min (t.val - 12) 5 = (i 0).val / 64 ∧ (12 ≤ t.val ∧ t.val < 17 ∨ t.val = 29) := by
    by_cases h : (i 0).val / 64 < 5
    · exact ⟨⟨12 + (i 0).val / 64, by rw [show cfg0.N = 30 from N_0]; omega⟩, by show min (12 + (i 0).val / 64 - 12) 5 = _; omega, by show 12 ≤ 12 + (i 0).val / 64 ∧ 12 + (i 0).val / 64 < 17 ∨ 12 + (i 0).val / 64 = 29; omega⟩
    · exact ⟨⟨29, by rw [show cfg0.N = 30 from N_0]; omega⟩, by show min (29 - 12) 5 = _; omega, .inr rfl⟩
  refine ⟨t, by rw [flush_5]; exact decide_eq_true hf, ?_⟩
  rw [(cfg0.win 5).emb_mem_blk_iff]
  intro a
  match a with
  | ⟨0, _⟩ =>
    show (cfg0.win 5).index t 0 * 64 ≤ (i 0).val ∧ (i 0).val < (cfg0.win 5).index t 0 * 64 + 64
    rw [(index_5 t).1]; omega
  | ⟨1, _⟩ =>
    show (cfg0.win 5).index t 1 * 8 ≤ (i 1).val ∧ (i 1).val < (cfg0.win 5).index t 1 * 8 + 8
    rw [(index_5 t).2.1]; have : (i 1).val < 8 := (i 1).isLt; omega
  | ⟨2, _⟩ =>
    show (cfg0.win 5).index t 2 * 3072 ≤ (i 2).val ∧ (i 2).val < (cfg0.win 5).index t 2 * 3072 + 3072
    rw [(index_5 t).2.2]; have : (i 2).val < 3072 := (i 2).isLt; omega

theorem read_6 (t : Fin cfg0.N) (j : S256x2048.Idx) : L6 m c t.val j = O6 m c (((cfg0.win 6).rect t).emb j) := by
  have hN := N30 t
  have h0 : (((cfg0.win 6).rect t).emb j 0).val = _ := (cfg0.win 6).rect_emb_val t j 0
  have h1 : (((cfg0.win 6).rect t).emb j 1).val = _ := (cfg0.win 6).rect_emb_val t j 1
  rw [(index_6 t).1] at h0
  rw [(index_6 t).2] at h1
  refine congrArg (O6 m c) (Shape.idx_ext₂ (Eq.trans ?_ h0.symm) (Eq.trans ?_ h1.symm))
  · show 256 * min (t.val - 18) 11 + (j 0).val = (t.val - 18) * 256 + (j 0).val; omega
  · show (j 1).val = 0 * 2048 + (j 1).val; omega

theorem flush_6 : ∀ t : Fin cfg0.N, (cfg0.win 6).flush t = decide (18 ≤ t.val) := by decide +kernel

theorem cover_6 (i : S3072x2048.Idx) : ∃ t : Fin cfg0.N, (cfg0.win 6).flush t = true ∧ (cfg0.win 6).arr.view.emb i ∈ ((cfg0.win 6).blk t).view.set := by
  have hi : (i 0).val < 3072 := (i 0).isLt
  obtain ⟨t, ht, hf⟩ : ∃ t : Fin cfg0.N, t.val - 18 = (i 0).val / 256 ∧ (18 ≤ t.val) := by
    exact ⟨⟨18 + (i 0).val / 256, by rw [show cfg0.N = 30 from N_0]; omega⟩, by show 18 + (i 0).val / 256 - 18 = _; omega, by show 18 ≤ 18 + (i 0).val / 256; omega⟩
  refine ⟨t, by rw [flush_6]; exact decide_eq_true hf, ?_⟩
  rw [(cfg0.win 6).emb_mem_blk_iff]
  intro a
  match a with
  | ⟨0, _⟩ =>
    show (cfg0.win 6).index t 0 * 256 ≤ (i 0).val ∧ (i 0).val < (cfg0.win 6).index t 0 * 256 + 256
    rw [(index_6 t).1]; omega
  | ⟨1, _⟩ =>
    show (cfg0.win 6).index t 1 * 2048 ≤ (i 1).val ∧ (i 1).val < (cfg0.win 6).index t 1 * 2048 + 2048
    rw [(index_6 t).2]; have : (i 1).val < 2048 := (i 1).isLt; omega

theorem read_7 (t : Fin cfg0.N) (j : S512x3072.Idx) : L7 m c t.val j = O7 m c (((cfg0.win 7).rect t).emb j) := by
  have hN := N30 t
  have h0 : (((cfg0.win 7).rect t).emb j 0).val = _ := (cfg0.win 7).rect_emb_val t j 0
  have h1 : (((cfg0.win 7).rect t).emb j 1).val = _ := (cfg0.win 7).rect_emb_val t j 1
  rw [(index_7 t).1] at h0
  rw [(index_7 t).2] at h1
  refine congrArg (O7 m c) (Shape.idx_ext₂ (Eq.trans ?_ h0.symm) (Eq.trans ?_ h1.symm))
  · show 512 * min (t.val - 12) 5 + (j 0).val = (min (t.val - 12) 5) * 512 + (j 0).val; omega
  · show (j 1).val = 0 * 3072 + (j 1).val; omega

theorem flush_7 : ∀ t : Fin cfg0.N, (cfg0.win 7).flush t = decide (12 ≤ t.val ∧ t.val < 17 ∨ t.val = 29) := by decide +kernel

theorem cover_7 (i : S3072x3072.Idx) : ∃ t : Fin cfg0.N, (cfg0.win 7).flush t = true ∧ (cfg0.win 7).arr.view.emb i ∈ ((cfg0.win 7).blk t).view.set := by
  have hi : (i 0).val < 3072 := (i 0).isLt
  obtain ⟨t, ht, hf⟩ : ∃ t : Fin cfg0.N, min (t.val - 12) 5 = (i 0).val / 512 ∧ (12 ≤ t.val ∧ t.val < 17 ∨ t.val = 29) := by
    by_cases h : (i 0).val / 512 < 5
    · exact ⟨⟨12 + (i 0).val / 512, by rw [show cfg0.N = 30 from N_0]; omega⟩, by show min (12 + (i 0).val / 512 - 12) 5 = _; omega, by show 12 ≤ (12 + (i 0).val / 512) ∧ (12 + (i 0).val / 512) < 17 ∨ (12 + (i 0).val / 512) = 29; omega⟩
    · exact ⟨⟨29, by rw [show cfg0.N = 30 from N_0]; omega⟩, by show min (29 - 12) 5 = _; omega, .inr rfl⟩
  refine ⟨t, by rw [flush_7]; exact decide_eq_true hf, ?_⟩
  rw [(cfg0.win 7).emb_mem_blk_iff]
  intro a
  match a with
  | ⟨0, _⟩ =>
    show (cfg0.win 7).index t 0 * 512 ≤ (i 0).val ∧ (i 0).val < (cfg0.win 7).index t 0 * 512 + 512
    rw [(index_7 t).1]; omega
  | ⟨1, _⟩ =>
    show (cfg0.win 7).index t 1 * 3072 ≤ (i 1).val ∧ (i 1).val < (cfg0.win 7).index t 1 * 3072 + 3072
    rw [(index_7 t).2]; have : (i 1).val < 3072 := (i 1).isLt; omega

theorem read_9 (t : Fin cfg0.N) (j : S256x2048.Idx) : L9 m c t.val j = O9 m c (((cfg0.win 9).rect t).emb j) := by
  have hN := N30 t
  have h0 : (((cfg0.win 9).rect t).emb j 0).val = _ := (cfg0.win 9).rect_emb_val t j 0
  have h1 : (((cfg0.win 9).rect t).emb j 1).val = _ := (cfg0.win 9).rect_emb_val t j 1
  rw [(index_9 t).1] at h0
  rw [(index_9 t).2] at h1
  refine congrArg (O9 m c) (Shape.idx_ext₂ (Eq.trans ?_ h0.symm) (Eq.trans ?_ h1.symm))
  · show 256 * min t.val 11 + (j 0).val = (min t.val 11) * 256 + (j 0).val; omega
  · show (j 1).val = 0 * 2048 + (j 1).val; omega

theorem flush_9 : ∀ t : Fin cfg0.N, (cfg0.win 9).flush t = decide (t.val < 11 ∨ t.val = 29) := by decide +kernel

theorem cover_9 (i : S3072x2048.Idx) : ∃ t : Fin cfg0.N, (cfg0.win 9).flush t = true ∧ (cfg0.win 9).arr.view.emb i ∈ ((cfg0.win 9).blk t).view.set := by
  have hi : (i 0).val < 3072 := (i 0).isLt
  obtain ⟨t, ht, hf⟩ : ∃ t : Fin cfg0.N, min t.val 11 = (i 0).val / 256 ∧ (t.val < 11 ∨ t.val = 29) := by
    by_cases h : (i 0).val / 256 < 11
    · exact ⟨⟨0 + (i 0).val / 256, by rw [show cfg0.N = 30 from N_0]; omega⟩, by show min (0 + (i 0).val / 256) 11 = _; omega, by show (0 + (i 0).val / 256) < 11 ∨ (0 + (i 0).val / 256) = 29; omega⟩
    · exact ⟨⟨29, by rw [show cfg0.N = 30 from N_0]; omega⟩, by show min (29) 11 = _; omega, .inr rfl⟩
  refine ⟨t, by rw [flush_9]; exact decide_eq_true hf, ?_⟩
  rw [(cfg0.win 9).emb_mem_blk_iff]
  intro a
  match a with
  | ⟨0, _⟩ =>
    show (cfg0.win 9).index t 0 * 256 ≤ (i 0).val ∧ (i 0).val < (cfg0.win 9).index t 0 * 256 + 256
    rw [(index_9 t).1]; omega
  | ⟨1, _⟩ =>
    show (cfg0.win 9).index t 1 * 2048 ≤ (i 1).val ∧ (i 1).val < (cfg0.win 9).index t 1 * 2048 + 2048
    rw [(index_9 t).2]; have : (i 1).val < 2048 := (i 1).isLt; omega

theorem read_11 (t : Fin cfg0.N) (j : S512x2048.Idx) : L11 m c t.val j = O11 m c (((cfg0.win 11).rect t).emb j) := by
  have hN := N30 t
  have h0 : (((cfg0.win 11).rect t).emb j 0).val = _ := (cfg0.win 11).rect_emb_val t j 0
  have h1 : (((cfg0.win 11).rect t).emb j 1).val = _ := (cfg0.win 11).rect_emb_val t j 1
  rw [(index_11 t).1] at h0
  rw [(index_11 t).2] at h1
  refine congrArg (O11 m c) (Shape.idx_ext₂ (Eq.trans ?_ h0.symm) (Eq.trans ?_ h1.symm))
  · show 512 * min (t.val - 12) 5 + (j 0).val = (min (t.val - 12) 5) * 512 + (j 0).val; omega
  · show (j 1).val = 0 * 2048 + (j 1).val; omega

theorem flush_11 : ∀ t : Fin cfg0.N, (cfg0.win 11).flush t = decide (12 ≤ t.val ∧ t.val < 17 ∨ t.val = 29) := by decide +kernel

theorem cover_11 (i : S3072x2048.Idx) : ∃ t : Fin cfg0.N, (cfg0.win 11).flush t = true ∧ (cfg0.win 11).arr.view.emb i ∈ ((cfg0.win 11).blk t).view.set := by
  have hi : (i 0).val < 3072 := (i 0).isLt
  obtain ⟨t, ht, hf⟩ : ∃ t : Fin cfg0.N, min (t.val - 12) 5 = (i 0).val / 512 ∧ (12 ≤ t.val ∧ t.val < 17 ∨ t.val = 29) := by
    by_cases h : (i 0).val / 512 < 5
    · exact ⟨⟨12 + (i 0).val / 512, by rw [show cfg0.N = 30 from N_0]; omega⟩, by show min (12 + (i 0).val / 512 - 12) 5 = _; omega, by show 12 ≤ (12 + (i 0).val / 512) ∧ (12 + (i 0).val / 512) < 17 ∨ (12 + (i 0).val / 512) = 29; omega⟩
    · exact ⟨⟨29, by rw [show cfg0.N = 30 from N_0]; omega⟩, by show min (29 - 12) 5 = _; omega, .inr rfl⟩
  refine ⟨t, by rw [flush_11]; exact decide_eq_true hf, ?_⟩
  rw [(cfg0.win 11).emb_mem_blk_iff]
  intro a
  match a with
  | ⟨0, _⟩ =>
    show (cfg0.win 11).index t 0 * 512 ≤ (i 0).val ∧ (i 0).val < (cfg0.win 11).index t 0 * 512 + 512
    rw [(index_11 t).1]; omega
  | ⟨1, _⟩ =>
    show (cfg0.win 11).index t 1 * 2048 ≤ (i 1).val ∧ (i 1).val < (cfg0.win 11).index t 1 * 2048 + 2048
    rw [(index_11 t).2]; have : (i 1).val < 2048 := (i 1).isLt; omega

theorem read_8 (t : Fin cfg0.N) (j : S1x1.Idx) : O8 m c j = O8 m c (((cfg0.win 8).rect t).emb j) :=
  congrArg (O8 m c) (Shape.idx_ext₂ ((cfg0.win 8).rect_emb_val_of_index_zero t 0 rfl j).symm ((cfg0.win 8).rect_emb_val_of_index_zero t 1 rfl j).symm)

theorem flush_8 : ∀ t : Fin cfg0.N, (cfg0.win 8).flush t = decide (t.val = 29) := by decide +kernel

theorem cover_8 (i : S1x1.Idx) : ∃ t : Fin cfg0.N, (cfg0.win 8).flush t = true ∧ (cfg0.win 8).arr.view.emb i ∈ ((cfg0.win 8).blk t).view.set := by
  refine ⟨⟨29, by rw [show cfg0.N = 30 from N_0]; omega⟩, by rw [flush_8]; rfl, ?_⟩
  rw [(cfg0.win 8).emb_mem_blk_iff]
  intro a
  match a with
  | ⟨0, _⟩ =>
    show 0 * 1 ≤ (i 0).val ∧ (i 0).val < 0 * 1 + 1
    have : (i 0).val < 1 := (i 0).isLt; omega
  | ⟨1, _⟩ =>
    show 0 * 1 ≤ (i 1).val ∧ (i 1).val < 0 * 1 + 1
    have : (i 1).val < 1 := (i 1).isLt; omega

theorem read_10 (t : Fin cfg0.N) (j : S1x1.Idx) : O10 m c j = O10 m c (((cfg0.win 10).rect t).emb j) :=
  congrArg (O10 m c) (Shape.idx_ext₂ ((cfg0.win 10).rect_emb_val_of_index_zero t 0 rfl j).symm ((cfg0.win 10).rect_emb_val_of_index_zero t 1 rfl j).symm)

theorem flush_10 : ∀ t : Fin cfg0.N, (cfg0.win 10).flush t = decide (t.val = 29) := by decide +kernel

theorem cover_10 (i : S1x1.Idx) : ∃ t : Fin cfg0.N, (cfg0.win 10).flush t = true ∧ (cfg0.win 10).arr.view.emb i ∈ ((cfg0.win 10).blk t).view.set := by
  refine ⟨⟨29, by rw [show cfg0.N = 30 from N_0]; omega⟩, by rw [flush_10]; rfl, ?_⟩
  rw [(cfg0.win 10).emb_mem_blk_iff]
  intro a
  match a with
  | ⟨0, _⟩ =>
    show 0 * 1 ≤ (i 0).val ∧ (i 0).val < 0 * 1 + 1
    have : (i 0).val < 1 := (i 0).isLt; omega
  | ⟨1, _⟩ =>
    show 0 * 1 ≤ (i 1).val ∧ (i 1).val < 0 * 1 + 1
    have : (i 1).val < 1 := (i 1).isLt; omega

theorem read_12 (t : Fin cfg0.N) (j : S1x1.Idx) : O12 m c j = O12 m c (((cfg0.win 12).rect t).emb j) :=
  congrArg (O12 m c) (Shape.idx_ext₂ ((cfg0.win 12).rect_emb_val_of_index_zero t 0 rfl j).symm ((cfg0.win 12).rect_emb_val_of_index_zero t 1 rfl j).symm)

theorem flush_12 : ∀ t : Fin cfg0.N, (cfg0.win 12).flush t = decide (t.val = 29) := by decide +kernel

theorem cover_12 (i : S1x1.Idx) : ∃ t : Fin cfg0.N, (cfg0.win 12).flush t = true ∧ (cfg0.win 12).arr.view.emb i ∈ ((cfg0.win 12).blk t).view.set := by
  refine ⟨⟨29, by rw [show cfg0.N = 30 from N_0]; omega⟩, by rw [flush_12]; rfl, ?_⟩
  rw [(cfg0.win 12).emb_mem_blk_iff]
  intro a
  match a with
  | ⟨0, _⟩ =>
    show 0 * 1 ≤ (i 0).val ∧ (i 0).val < 0 * 1 + 1
    have : (i 0).val < 1 := (i 0).isLt; omega
  | ⟨1, _⟩ =>
    show 0 * 1 ≤ (i 1).val ∧ (i 1).val < 0 * 1 + 1
    have : (i 1).val < 1 := (i 1).isLt; omega

theorem read_13 (t : Fin cfg0.N) (j : S3x16.Idx) : O13 m c j = O13 m c (((cfg0.win 13).rect t).emb j) :=
  congrArg (O13 m c) (Shape.idx_ext₂ ((cfg0.win 13).rect_emb_val_of_index_zero t 0 rfl j).symm ((cfg0.win 13).rect_emb_val_of_index_zero t 1 rfl j).symm)

theorem flush_13 : ∀ t : Fin cfg0.N, (cfg0.win 13).flush t = decide (t.val = 29) := by decide +kernel

theorem cover_13 (i : S3x16.Idx) : ∃ t : Fin cfg0.N, (cfg0.win 13).flush t = true ∧ (cfg0.win 13).arr.view.emb i ∈ ((cfg0.win 13).blk t).view.set := by
  refine ⟨⟨29, by rw [show cfg0.N = 30 from N_0]; omega⟩, by rw [flush_13]; rfl, ?_⟩
  rw [(cfg0.win 13).emb_mem_blk_iff]
  intro a
  match a with
  | ⟨0, _⟩ =>
    show 0 * 3 ≤ (i 0).val ∧ (i 0).val < 0 * 3 + 3
    have : (i 0).val < 3 := (i 0).isLt; omega
  | ⟨1, _⟩ =>
    show 0 * 16 ≤ (i 1).val ∧ (i 1).val < 0 * 16 + 16
    have : (i 1).val < 16 := (i 1).isLt; omega

end Cert.KernelIdeal.Val
-- ==== Proof.Value.Pay.lean ====
/- What the values the kernel stores are, index by index. -/
module

public import proofs.«01_k».proof.Proof.Gen.KernelIdeal.Skeleton
public import proofs.«01_k».proof.Proof.Value.Spec
public import Idealize.ShloMosaic.Lib.Pipeline.Value

@[expose] public section

set_option maxRecDepth 16384

open Idealize Idealize.ShloMosaic Idealize.ShloMosaic.ValueIdx
open Cert.Scale Cert.Spec Cert.KernelIdeal Cert.KernelIdeal.Gen

namespace Cert.KernelIdeal.Val

/-! ### The codes -/

theorem pay5_at (w : Vec Ideal S256x2048 .bf16) (v : Vec Ideal S1x1 .f32) (z : EReal) (hv : ∀ i, v i = z) (i : S256x2048.Idx) :
    k0_pay5 w v i = code (w i) z := by
  show code (w i) (v _) = _
  rw [hv]

theorem pay6_eq (w : Vec Ideal S256x2048 .bf16) (v : Vec Ideal S1x1 .f32) : k0_pay6 w v = k0_pay5 w v := by
  unfold k0_pay6; exact shapeCast_self _ _

theorem pay22_at (w : Vec Ideal S512x3072 .bf16) (v : Vec Ideal S1x1 .f32) (z : EReal) (hv : ∀ i, v i = z) (i : S512x3072.Idx) :
    k0_pay22 w v i = code (w i) z := by
  have h2 : k0_pay20 w = w := by
    unfold k0_pay20; exact shapeCast_self _ _
  unfold k0_pay22
  rw [h2]
  show code (w i) (v _) = _
  rw [hv]

theorem pay41_at (w : Vec Ideal S512x2048 .bf16) (v : Vec Ideal S1x1 .f32) (z : EReal) (hv : ∀ i, v i = z) (i : S512x2048.Idx) :
    k0_pay41 (k0_pay39 w) (k0_pay40 v) i = codeG (w i) z := by
  have h2 : k0_pay37 w = w := by
    unfold k0_pay37; exact shapeCast_self _ _
  unfold k0_pay39 k0_pay40
  rw [h2]
  show codeG (w i) (v _) = _
  rw [hv]

theorem pay42_eq (a b : FVec Ideal S512x2048 .f32) : k0_pay42 a b = k0_pay41 a b := by
  unfold k0_pay42; exact shapeCast_self _ _

/-! ### The column slabs -/

/-- A slab of 256 columns, under a leading axis of one. -/
theorem slab_at {α : Type} (q : S512x3072.Idx → α) (s : ℕ) (hs : s < 12) (o : ℕ) (ho : o = 256 * s) (h : Shape.Slices S512x3072 ![0, o] S512x256) (h' : S512x256.ShapeCasts S1x512x256)
    (z : Fin 1) (r : Fin 512) (c : Fin 256) :
    shapeCast S1x512x256 (extractStridedSlice S512x256 ![0, o] q h) h' (ix3 z r c) = q (ix2 r ⟨256 * s + c.val, by have := c.isLt; omega⟩) := by
  subst ho
  have hz : z = 0 := Subsingleton.elim _ _
  subst hz
  rw [shapeCast_apply _ _ (ix3 0 r c) (ix2 r c) (by
    rw [Shape.rowMajor_val_two, Shape.rowMajor_val_three]
    show r.val * 256 + c.val = (0 * 512 + r.val) * 256 + c.val; omega)]
  refine extractStridedSlice_apply _ _ _ _ _ fun a => ?_
  match a with
  | ⟨0, _⟩ => show r.val = 0 + r.val; omega
  | ⟨1, _⟩ => rfl

/-- The slab of number `s` the kernel stores. -/
noncomputable def slab (x : Vec Ideal S512x3072 .bf16) (v : Vec Ideal S1x1 .f32) : ℕ → (S1x512x256.Idx → EReal)
  | 0 => k0_pay23 x v
  | 1 => k0_pay24 x v
  | 2 => k0_pay26 (k0_pay25 x v)
  | 3 => k0_pay27 (k0_pay22 x v)
  | 4 => k0_pay28 (k0_pay22 x v)
  | 5 => k0_pay29 (k0_pay22 x v)
  | 6 => k0_pay30 (k0_pay22 x v)
  | 7 => k0_pay31 (k0_pay22 x v)
  | 8 => k0_pay33 (k0_pay32 (k0_pay22 x v))
  | 9 => k0_pay34 (k0_pay22 x v)
  | 10 => k0_pay35 (k0_pay22 x v)
  | _ => k0_pay36 (k0_pay22 x v)

theorem slab_eq (x : Vec Ideal S512x3072 .bf16) (v : Vec Ideal S1x1 .f32) (s : ℕ) (hs : s < 12) (z : Fin 1) (r : Fin 512) (c : Fin 256) :
    slab x v s (ix3 z r c) = k0_pay22 x v (ix2 r ⟨256 * s + c.val, by have := c.isLt; omega⟩) := by
  match s, hs with
  | 0, h => exact slab_at (k0_pay22 x v) 0 h 0 rfl slices_S512x3072_o0_0_S512x256 shapeCasts_S512x256_S1x512x256 z r c
  | 1, h => exact slab_at (k0_pay22 x v) 1 h 256 rfl slices_S512x3072_o0_256_S512x256 shapeCasts_S512x256_S1x512x256 z r c
  | 2, h => exact slab_at (k0_pay22 x v) 2 h 512 rfl slices_S512x3072_o0_512_S512x256 shapeCasts_S512x256_S1x512x256 z r c
  | 3, h => exact slab_at (k0_pay22 x v) 3 h 768 rfl slices_S512x3072_o0_768_S512x256 shapeCasts_S512x256_S1x512x256 z r c
  | 4, h => exact slab_at (k0_pay22 x v) 4 h 1024 rfl slices_S512x3072_o0_1024_S512x256 shapeCasts_S512x256_S1x512x256 z r c
  | 5, h => exact slab_at (k0_pay22 x v) 5 h 1280 rfl slices_S512x3072_o0_1280_S512x256 shapeCasts_S512x256_S1x512x256 z r c
  | 6, h => exact slab_at (k0_pay22 x v) 6 h 1536 rfl slices_S512x3072_o0_1536_S512x256 shapeCasts_S512x256_S1x512x256 z r c
  | 7, h => exact slab_at (k0_pay22 x v) 7 h 1792 rfl slices_S512x3072_o0_1792_S512x256 shapeCasts_S512x256_S1x512x256 z r c
  | 8, h => exact slab_at (k0_pay22 x v) 8 h 2048 rfl slices_S512x3072_o0_2048_S512x256 shapeCasts_S512x256_S1x512x256 z r c
  | 9, h => exact slab_at (k0_pay22 x v) 9 h 2304 rfl slices_S512x3072_o0_2304_S512x256 shapeCasts_S512x256_S1x512x256 z r c
  | 10, h => exact slab_at (k0_pay22 x v) 10 h 2560 rfl slices_S512x3072_o0_2560_S512x256 shapeCasts_S512x256_S1x512x256 z r c
  | 11, h => exact slab_at (k0_pay22 x v) 11 h 2816 rfl slices_S512x3072_o0_2816_S512x256 shapeCasts_S512x256_S1x512x256 z r c
  | n + 12, h => omega

/-! ### The folds of the magnitudes -/

theorem pay1_zero (i : S16x3072.Idx) : k0_pay1 (F := Ideal) k0_pay19 i = 0 := lit_zero16
theorem pay2_zero (i : S16x2048.Idx) : k0_pay2 (F := Ideal) i = 0 := lit_zero16
theorem pay3_zero (i : S16x2048.Idx) : k0_pay3 (F := Ideal) i = 0 := lit_zero16

/-- A block's magnitudes folded into sixteen rows, and these into the rows kept: each entry only grows, and a bound on
    all of them is one on all that was there before and on every magnitude of the block. -/
theorem fold_step {s m t : Shape} (x : FVec Ideal s .bf16) (a : FVec Ideal t .bf16) (axes : List (Fin m.rank)) (hc : s.ShapeCasts m) (hr : m.Reduces axes t)
    (hφ : FKind.Formats .bf16) (hacc : 0xFF80#16 = FKind.maximumf.neutral .bf16 hφ) (hc' : t.ShapeCasts t) :
    (∀ j, a j ≤ shapeCast t (maximumf a (multiReduction (F := Ideal) .maximumf axes t (shapeCast m (absf x) hc) 0xFF80#16 hr hφ hacc)) hc' j)
    ∧ ∀ b : EReal, (∀ j, shapeCast t (maximumf a (multiReduction (F := Ideal) .maximumf axes t (shapeCast m (absf x) hc) 0xFF80#16 hr hφ hacc)) hc' j ≤ b)
        ↔ (∀ j, a j ≤ b) ∧ ∀ i, ab (x i) ≤ b := by
  rw [shapeCast_self]
  refine ⟨fun j => le_max_left (α := EReal) _ _, fun b => ?_⟩
  have h1 : ∀ j, (maximumf a (multiReduction (F := Ideal) .maximumf axes t (shapeCast m (absf x) hc) 0xFF80#16 hr hφ hacc) j : EReal) ≤ b
      ↔ a j ≤ b ∧ ∀ i, hr.drop i = j → shapeCast m (absf x) hc i ≤ b := fun j => by
    refine (max_le_iff (α := EReal)).trans ?_
    rw [red_le _ _ _ _ _ lit_bot16]
  constructor
  · intro h
    refine ⟨fun j => ((h1 j).mp (h j)).1, ?_⟩
    have : ∀ i, shapeCast m (absf x) hc i ≤ b := fun i => ((h1 (hr.drop i)).mp (h _)).2 i rfl
    exact (cast_all (absf x) hc fun w => w ≤ b).mp this
  · rintro ⟨ha, hx⟩ j
    exact (h1 j).mpr ⟨ha j, fun i _ => (cast_all (absf x) hc fun w => w ≤ b).mpr hx i⟩

theorem pay4_step (x : Vec Ideal S256x2048 .bf16) (a : Vec Ideal S16x2048 .bf16) :
    (∀ j, a j ≤ k0_pay4 x a j) ∧ ∀ b : EReal, (∀ j, k0_pay4 x a j ≤ b) ↔ (∀ j, a j ≤ b) ∧ ∀ i, ab (x i) ≤ b :=
  fold_step x a _ shapeCasts_S256x2048_S16x16x2048 reduces_S16x16x2048_S16x2048 (.inr rfl) rfl shapeCasts_S16x2048_S16x2048

theorem pay21_step (x : Vec Ideal S512x3072 .bf16) (a : Vec Ideal S16x3072 .bf16) :
    (∀ j, a j ≤ k0_pay21 x a j) ∧ ∀ b : EReal, (∀ j, k0_pay21 x a j ≤ b) ↔ (∀ j, a j ≤ b) ∧ ∀ i, ab (x i) ≤ b := by
  have h2 : k0_pay20 x = x := by
    unfold k0_pay20; exact shapeCast_self _ _
  unfold k0_pay21
  rw [h2]
  exact fold_step x a _ shapeCasts_S512x3072_S32x16x3072 reduces_S32x16x3072_S16x3072 (.inr rfl) rfl shapeCasts_S16x3072_S16x3072

theorem pay38_step (x : Vec Ideal S512x2048 .bf16) (a : Vec Ideal S16x2048 .bf16) :
    (∀ j, a j ≤ k0_pay38 x a j) ∧ ∀ b : EReal, (∀ j, k0_pay38 x a j ≤ b) ↔ (∀ j, a j ≤ b) ∧ ∀ i, ab (x i) ≤ b := by
  have h2 : k0_pay37 x = x := by
    unfold k0_pay37; exact shapeCast_self _ _
  unfold k0_pay38
  rw [h2]
  exact fold_step x a _ shapeCasts_S512x2048_S32x16x2048 reduces_S32x16x2048_S16x2048 (.inr rfl) rfl shapeCasts_S16x2048_S16x2048

/-! ### The products -/

theorem dotYb (l : FVec Ideal S512x3072 .fp8e4m3) (r : FVec Ideal S3072x2048 .fp8e4m3) (i : Fin 512) (j : Fin 2048) :
    matmul dot_S512x3072_S3072x2048_S512x2048_1_0_0_1_n_n none l r (constant S512x2048 .f32 0x00000000#32) (ix2 i j)
      = ∑ k : Fin 3072, l (ix2 i k) * r (ix2 k j) := by
  refine (Ideal.matmul_constant_zero_apply _ none l r (ix2 i j)).trans ?_
  rw [← Equiv.sum_comp (contrEquiv1 dot_S512x3072_S3072x2048_S512x2048_1_0_0_1_n_n 3072 rfl rfl).symm]
  refine Finset.sum_congr rfl fun k _ => ?_
  congr 1
  · exact congrArg l (Shape.idx_ext₂ rfl rfl)
  · exact congrArg r (Shape.idx_ext₂ rfl rfl)

theorem dotDxb (l : FVec Ideal S512x2048 .fp8e5m2) (r : FVec Ideal S3072x2048 .fp8e4m3) (i : Fin 512) (j : Fin 3072) :
    matmul dot_S512x2048_S3072x2048_S512x3072_1_1_0_0_n_n none l r (constant S512x3072 .f32 0x00000000#32) (ix2 i j)
      = ∑ k : Fin 2048, l (ix2 i k) * r (ix2 j k) := by
  refine (Ideal.matmul_constant_zero_apply _ none l r (ix2 i j)).trans ?_
  rw [← Equiv.sum_comp (contrEquiv1 dot_S512x2048_S3072x2048_S512x3072_1_1_0_0_n_n 2048 rfl rfl).symm]
  refine Finset.sum_congr rfl fun k _ => ?_
  congr 1
  · exact congrArg l (Shape.idx_ext₂ rfl rfl)
  · exact congrArg r (Shape.idx_ext₂ rfl rfl)

theorem dotDwb (l : FVec Ideal S3072x256 .fp8e4m3) (r : FVec Ideal S3072x2048 .fp8e5m2) (i : Fin 256) (j : Fin 2048) :
    matmul dot_S3072x256_S3072x2048_S256x2048_0_0_1_1_n_n none l r (constant S256x2048 .f32 0x00000000#32) (ix2 i j)
      = ∑ k : Fin 3072, l (ix2 k i) * r (ix2 k j) := by
  refine (Ideal.matmul_constant_zero_apply _ none l r (ix2 i j)).trans ?_
  rw [← Equiv.sum_comp (contrEquiv1 dot_S3072x256_S3072x2048_S256x2048_0_0_1_1_n_n 3072 rfl rfl).symm]
  refine Finset.sum_congr rfl fun k _ => ?_
  congr 1
  · exact congrArg l (Shape.idx_ext₂ rfl rfl)
  · exact congrArg r (Shape.idx_ext₂ rfl rfl)

theorem row8_lt (a : Fin 64) (b : Fin 8) : a.val * 8 + b.val < 512 := by have := a.isLt; have := b.isLt; omega

/-- An index of a block of y or dx, by its three coordinates, is one of the matrix it is a view of. -/
theorem cast8 {α : Type} {n : ℕ} (v : (⟨2, ![512, n]⟩ : Shape).Idx → α) (h : (⟨2, ![512, n]⟩ : Shape).ShapeCasts ⟨3, ![64, 8, n]⟩)
    (a : Fin 64) (b : Fin 8) (c : Fin n) :
    shapeCast ⟨3, ![64, 8, n]⟩ v h (ix3 a b c) = v (ix2 ⟨a.val * 8 + b.val, row8_lt a b⟩ c) :=
  shapeCast_apply _ _ (ix3 a b c) (ix2 ⟨a.val * 8 + b.val, row8_lt a b⟩ c) (by
    rw [Shape.rowMajor_val_two, Shape.rowMajor_val_three]
    show (a.val * 8 + b.val) * n + c.val = (a.val * 8 + b.val) * n + c.val
    rfl)

theorem pay43_at (l : Vec Ideal S512x3072 .fp8e4m3) (r : Vec Ideal S3072x2048 .fp8e4m3) (u v : Vec Ideal S1x1 .f32) (zu zv : EReal)
    (hu : ∀ i, u i = zu) (hv : ∀ i, v i = zv) (a : Fin 64) (b : Fin 8) (c : Fin 2048) :
    k0_pay43 l r u v (ix3 a b c) = (∑ k : Fin 3072, l (ix2 ⟨a.val * 8 + b.val, row8_lt a b⟩ k) * r (ix2 k c)) * (zu * zv) := by
  unfold k0_pay43
  refine (cast8 _ _ a b c).trans ?_
  rw [shapeCast_self]
  show matmul (F := Ideal) dot_S512x3072_S3072x2048_S512x2048_1_0_0_1_n_n none l r (constant S512x2048 .f32 0x00000000#32) _ * (u _ * v _) = _
  rw [hu, hv, dotYb]

theorem pay7_at (l : Vec Ideal S512x2048 .fp8e5m2) (r : Vec Ideal S3072x2048 .fp8e4m3) (u v : Vec Ideal S1x1 .f32) (zu zv : EReal)
    (hu : ∀ i, u i = zu) (hv : ∀ i, v i = zv) (a : Fin 64) (b : Fin 8) (c : Fin 3072) :
    k0_pay7 (k0_pay44 l r) u v (ix3 a b c) = (∑ k : Fin 2048, l (ix2 ⟨a.val * 8 + b.val, row8_lt a b⟩ k) * r (ix2 c k)) * (zu * zv) := by
  unfold k0_pay7 k0_pay44
  refine (cast8 _ _ a b c).trans ?_
  rw [shapeCast_self]
  show matmul (F := Ideal) dot_S512x2048_S3072x2048_S512x3072_1_1_0_0_n_n none l r (constant S512x3072 .f32 0x00000000#32) _ * (u _ * v _) = _
  rw [hu, hv, dotDxb]

theorem pay9_at (l : Vec Ideal S1x3072x256 .fp8e4m3) (r : Vec Ideal S3072x2048 .fp8e5m2) (u v : Vec Ideal S1x1 .f32) (zu zv : EReal)
    (hu : ∀ i, u i = zu) (hv : ∀ i, v i = zv) (a : Fin 256) (c : Fin 2048) :
    k0_pay9 l r u v (ix2 a c) = (∑ k : Fin 3072, l (ix3 0 k a) * r (ix2 k c)) * (zu * zv) := by
  have h : ∀ k : Fin 3072, shapeCast S3072x256 l shapeCasts_S1x3072x256_S3072x256 (ix2 k a) = l (ix3 0 k a) := fun k =>
    shapeCast_apply _ _ (ix2 k a) (ix3 0 k a) (by
      rw [Shape.rowMajor_val_two, Shape.rowMajor_val_three]
      show (0 * 3072 + k.val) * 256 + a.val = k.val * 256 + a.val; omega)
  unfold k0_pay9
  show matmul (F := Ideal) dot_S3072x256_S3072x2048_S256x2048_0_0_1_1_n_n none (shapeCast S3072x256 l shapeCasts_S1x3072x256_S3072x256) r (constant S256x2048 .f32 0x00000000#32) _ * (u _ * v _) = _
  rw [hu, hv, dotDwb]
  simp only [h]

/-! ### The new history -/

/-- The largest entry of a kept fold, taken out: bounded exactly when every entry is. -/
theorem most_le {n : ℕ} (v : FVec Ideal (⟨2, ![16, n]⟩ : Shape) .bf16) (hc : (⟨2, ![16, n]⟩ : Shape).ShapeCasts ⟨3, ![1, 16, n]⟩)
    (hr : (⟨3, ![1, 16, n]⟩ : Shape).Reduces [1, 2] S1) (hφ : FKind.Formats .f32) (hacc : 0xFF800000#32 = FKind.maximumf.neutral .f32 hφ) (hx : FTy.bf16.bits < FTy.f32.bits)
    (h1 : S1.ShapeCasts S1x1x1) (h2 : ∀ a, (![0, 0, 0] : Fin 3 → ℕ) a < S1x1x1.size a) (b : EReal) :
    extractAt ![0, 0, 0] (shapeCast S1x1x1 (multiReduction (F := Ideal) .maximumf [1, 2] S1 (shapeCast (⟨3, ![1, 16, n]⟩ : Shape) (extf .f32 v hx) hc) 0xFF800000#32 hr hφ hacc) h1) h2 ≤ b
      ↔ ∀ i, v i ≤ b := by
  refine (red_all_le (shapeCast (⟨3, ![1, 16, n]⟩ : Shape) (extf .f32 v hx) hc) 0xFF800000#32 hr (by intro a; fin_cases a; rfl) hφ hacc lit_bot _ b).trans ?_
  exact cast_all (extf .f32 v hx) hc fun w => w ≤ b

/-- One of three values by the row's number. -/
theorem sel3 (a b c : EReal) (k : Fin 3) :
    select (cmpi .eq (iota .tc S3x1 32 [0] iota_S3x1_d0_w32) (broadcast S3x1 0#32)) (broadcast S3x1 a)
      (select (cmpi .eq (iota .tc S3x1 32 [0] iota_S3x1_d0_w32) (broadcast S3x1 1#32)) (broadcast S3x1 b) (broadcast S3x1 c)) (ix2 k 0)
      = if k.val = 0 then a else if k.val = 1 then b else c := by
  show Scalar.select (IntOp.cmpi .eq (iota .tc S3x1 32 [0] iota_S3x1_d0_w32 (ix2 k 0)) 0#32) a
    (Scalar.select (IntOp.cmpi .eq (iota .tc S3x1 32 [0] iota_S3x1_d0_w32 (ix2 k 0)) 1#32) b c) = _
  rw [iota_single_apply]
  fin_cases k <;> rfl

theorem pay8_at (H : Vec Ideal S3x16 .f32) (X : SX.Idx → EReal) (W D : SW.Idx → EReal) (ax : Vec Ideal S16x3072 .bf16) (aw ad : Vec Ideal S16x2048 .bf16)
    (hx : ∀ v : EReal, (∀ b, v ≤ b ↔ ∀ i, ax i ≤ b) → v = top X) (hw : ∀ v : EReal, (∀ b, v ≤ b ↔ ∀ i, aw i ≤ b) → v = top W)
    (hd : ∀ v : EReal, (∀ b, v ≤ b ↔ ∀ i, ad i ≤ b) → v = top D) (k : Fin 3) (l : Fin 16) :
    k0_pay8 H ax aw ad (ix2 k l) = nh H X W D k l := by
  unfold k0_pay8 nh
  by_cases hl : l.val = 0
  · rw [if_pos hl]
    refine (concatenate_pair_apply_left (t := S3x16) (s₁ := S3x1) (s₂ := S3x15) _ _ _ _ _ rfl (ix2 k 0 : S3x1.Idx) fun b => ?_).trans ?_
    · match b with
      | ⟨0, _⟩ => rfl
      | ⟨1, _⟩ => exact hl.symm
    unfold newest
    refine (sel3 _ _ _ k).trans ?_
    match k with
    | ⟨0, _⟩ =>
      rw [if_pos rfl, if_pos rfl]
      exact hx _ fun b => most_le ax shapeCasts_S16x3072_S1x16x3072 reduces_S1x16x3072_S1 (.inl rfl) rfl bitsLt_bf16_f32 shapeCasts_S1_S1x1x1 inpos_S1x1x1_p0_0_0 b
    | ⟨1, _⟩ =>
      rw [if_neg (by simp), if_pos rfl, if_neg (by simp), if_pos rfl]
      exact hw _ fun b => most_le aw shapeCasts_S16x2048_S1x16x2048 reduces_S1x16x2048_S1 (.inl rfl) rfl bitsLt_bf16_f32 shapeCasts_S1_S1x1x1 inpos_S1x1x1_p0_0_0 b
    | ⟨2, _⟩ =>
      rw [if_neg (by simp), if_neg (by simp), if_neg (by simp), if_neg (by simp)]
      exact hd _ fun b => most_le ad shapeCasts_S16x2048_S1x16x2048 reduces_S1x16x2048_S1 (.inl rfl) rfl bitsLt_bf16_f32 shapeCasts_S1_S1x1x1 inpos_S1x1x1_p0_0_0 b
  · have h15 : l.val - 1 < 15 := by have := l.isLt; omega
    rw [if_neg hl]
    refine (concatenate_pair_apply_right (t := S3x16) (s₁ := S3x1) (s₂ := S3x15) _ _ _ _ _ rfl rfl (ix2 k ⟨l.val - 1, h15⟩ : S3x15.Idx) (fun b hb => ?_) ?_).trans ?_
    · match b with
      | ⟨0, _⟩ => rfl
      | ⟨1, _⟩ => exact absurd rfl hb
    · show l.val - 1 + 1 = l.val; omega
    refine extractStridedSlice_apply _ _ _ _ (ix2 k ⟨l.val - 1, by omega⟩) fun a => ?_
    match a with
    | ⟨0, _⟩ => show k.val = 0 + k.val; omega
    | ⟨1, _⟩ => show l.val - 1 = 0 + (l.val - 1); omega

end Cert.KernelIdeal.Val
-- ==== Proof.Value.KScale.lean ====
/- The kernel's scales: the integers it computes are the reference's scales and inverses. -/
module

public import proofs.«01_k».proof.Proof.Gen.KernelIdeal.Skeleton
public import proofs.«01_k».proof.Proof.Value.Spec
public import Idealize.ShloMosaic.Lib.Pipeline.Value
public import Idealize.ShloMosaic.Lib.WordSum

@[expose] public section

set_option maxRecDepth 16384

open Idealize Idealize.ShloMosaic Idealize.ShloMosaic.ValueIdx
open Cert.Scale Cert.Spec Cert.KernelIdeal Cert.KernelIdeal.Gen

namespace Cert.KernelIdeal.Val

variable (H : Vec Ideal S3x16 .f32)

theorem amax_at (k : Fin 3) :
    shapeCast S3x1 (multiReduction (F := Ideal) (φ := .f32) .maximumf [1] S3 H 0xFF800000#32 reduces_S3x16_S3 (.inl rfl) rfl) shapeCasts_S3_S3x1 (ix2 k 0) = amax H k := by
  rw [shapeCast_apply _ _ (ix2 k 0) (ix1 k) (by rw [Shape.rowMajor_val_one, Shape.rowMajor_val_two]; show k.val = k.val * 1 + 0; omega)]
  refine (Ideal.multiReduction_maximumf_single _ _ _ _ _ _).trans ?_
  unfold amax
  refine Finset.fold_congr fun l _ => ?_
  refine congrArg H (Shape.idx_ext₂ rfl rfl)

/-- The reciprocal selected by the row's number. -/
theorem recip_at (k : Fin 3) :
    select (cmpi .eq (iota .tc S3x1 32 [0] iota_S3x1_d0_w32) (broadcast S3x1 2#32)) (broadcast S3x1 (lit 0x37924925#32)) (broadcast S3x1 (lit 0x3B124925#32)) (ix2 k 0) = recip k := by
  show Scalar.select (IntOp.cmpi .eq (iota .tc S3x1 32 [0] iota_S3x1_d0_w32 (ix2 k 0)) 2#32) (lit 0x37924925#32) (lit 0x3B124925#32) = _
  rw [iota_single_apply]
  unfold recip
  fin_cases k <;> rfl

/-- Whether edge `l` is not above `t`, as a word. -/
theorem bit_at (t : EReal) (l : ℕ) (hl : l < 256) :
    Scalar.select (FloatOps.cmpf (F := Ideal) (φ := .f32) .olt t (FloatOps.ofBits (F := Ideal) .f32 (IntOp.shli .vector (BitVec.ofNat 32 l) 23#32))) 0#32 1#32
      = if ¬ t < edge l then 1#32 else 0#32 := by
  have h : IntOp.shli .vector (BitVec.ofNat 32 l) 23#32 = edgeBits l := by
    unfold IntOp.shli edgeBits
    rw [if_pos (by decide)]; rfl
  rw [h]
  show Scalar.select (Ideal.cmp .olt t (edge l)) 0#32 1#32 = _
  show Scalar.select (BitVec.ofBool (decide (t < edge l))) 0#32 1#32 = _
  rw [select_ofBool]
  by_cases hc : t < edge l <;> simp [hc]

theorem count_at (v : FVec Ideal S3x1 .f32) (k : Fin 3) :
    shapeCast S3x1 (multiReductionI .add [1] S3 (select (cmpf (F := Ideal) (φ := .f32) .olt (broadcastTo S3x256 v broadcasts_S3x1_S3x256)
      (bitcastToFloat .f32 (shli (iota .tc S3x256 32 [1] iota_S3x256_d1_w32) (broadcast S3x256 23#32)))) (broadcast S3x256 0#32) (broadcast S3x256 1#32)) 0#32 reduces_S3x256_S3 rfl)
      shapeCasts_S3_S3x1 (ix2 k 0) = BitVec.ofNat 32 (Scale.count (v (ix2 k 0))) := by
  rw [shapeCast_apply _ _ (ix2 k 0) (ix1 k) (by rw [Shape.rowMajor_val_one, Shape.rowMajor_val_two]; show k.val = k.val * 1 + 0; omega)]
  have hs : ∑ i ∈ Finset.univ.filter (fun i => (reduces_S3x256_S3).drop i = ix1 k),
      ((select (cmpf (F := Ideal) (φ := .f32) .olt (broadcastTo S3x256 v broadcasts_S3x1_S3x256)
      (bitcastToFloat .f32 (shli (iota .tc S3x256 32 [1] iota_S3x256_d1_w32) (broadcast S3x256 23#32)))) (broadcast S3x256 0#32) (broadcast S3x256 1#32) : IVec S3x256 32) i).toNat
      = Scale.count (v (ix2 k 0)) := by
    refine ((reduces_S3x256_S3).sum_filter_drop_single _ _).trans ?_
    unfold Scale.count
    rw [Finset.card_filter]
    refine Finset.sum_congr rfl fun (l : Fin 256) _ => ?_
    have e : broadcastTo S3x256 v broadcasts_S3x1_S3x256 ((reduces_S3x256_S3).lift (ix1 k) l) = v (ix2 k 0) := congrArg v (Shape.idx_ext₂ rfl rfl)
    have e2 : iota .tc S3x256 32 [1] iota_S3x256_d1_w32 ((reduces_S3x256_S3).lift (ix1 k) l) = BitVec.ofNat 32 l.val := iota_single_apply _ _ _ _ _ _
    refine (congrArg BitVec.toNat ?_).trans (?_ : (if ¬ v (ix2 k 0) < edge l.val then 1#32 else 0#32 : BitVec 32).toNat = _)
    · refine Eq.trans ?_ (bit_at (v (ix2 k 0)) l.val l.isLt)
      show Scalar.select (FloatOps.cmpf (F := Ideal) (φ := .f32) .olt (broadcastTo S3x256 v broadcasts_S3x1_S3x256 ((reduces_S3x256_S3).lift (ix1 k) l))
        (FloatOps.ofBits (F := Ideal) .f32 (IntOp.shli .vector (iota .tc S3x256 32 [1] iota_S3x256_d1_w32 ((reduces_S3x256_S3).lift (ix1 k) l)) 23#32))) 0#32 1#32 = _
      rw [e, e2]
    · by_cases hc : v (ix2 k 0) < edge l.val <;> simp [hc]
  have hlt : Scale.count (v (ix2 k 0)) < 2 ^ 32 := lt_of_le_of_lt (count_le _) (by norm_num)
  apply BitVec.eq_of_toNat_eq
  refine (WordSum.toNat_multiReductionI_add _ _ _ _ (by rw [hs]; exact hlt)).trans ?_
  rw [hs, BitVec.toNat_ofNat, Nat.mod_eq_of_lt hlt]

theorem pay10_at (k : Fin 3) : k0_pay10 (F := Ideal) H (ix2 k 0) = kexpo (biased (mag (amax H k) (recip k))) := by
  unfold k0_pay10
  have h1 := amax_at H k
  have h2 := recip_at k
  generalize hA : shapeCast S3x1 (multiReduction (F := Ideal) (φ := .f32) .maximumf [1] S3 H 0xFF800000#32 reduces_S3x16_S3 (.inl rfl) rfl) shapeCasts_S3_S3x1 = A at h1 ⊢
  have h3 := count_at (absf (F := Ideal) (φ := .f32) (mulf A (select (cmpi .eq (iota .tc S3x1 32 [0] iota_S3x1_d0_w32) (broadcast S3x1 2#32)) (broadcast S3x1 (lit 0x37924925#32)) (broadcast S3x1 (lit 0x3B124925#32))))) k
  have h4 : (absf (F := Ideal) (φ := .f32) (mulf A (select (cmpi .eq (iota .tc S3x1 32 [0] iota_S3x1_d0_w32) (broadcast S3x1 2#32)) (broadcast S3x1 (lit 0x37924925#32)) (broadcast S3x1 (lit 0x3B124925#32))))) (ix2 k 0)
      = mag (amax H k) (recip k) := by
    rw [← h1, ← h2]; rfl
  rw [h4] at h3
  refine Eq.trans (b := Scalar.select (Ideal.cmp .oeq (A (ix2 k 0)) (lit 0#32)) 0#32 (kexpo (IntOp.subi (BitVec.ofNat 32 (Scale.count (mag (amax H k) (recip k)))) 1#32))) ?_ ?_
  · rw [← h3]; rfl
  · rw [h1, lit_zero]
    show Scalar.select (BitVec.ofBool (decide (amax H k = 0))) _ _ = _
    rw [select_ofBool]
    by_cases hz : amax H k = 0
    · rw [if_pos (by simp [hz]), kexpo_of_zero _ _ hz]
    · rw [if_neg (by simp [hz])]; rfl

theorem pay13_at (k : Fin 3) : k0_pay13 (F := Ideal) (k0_pay11 H) (k0_pay12 H) (ix2 k 0) = sc H k := by
  have h : k0_pay13 (F := Ideal) (k0_pay11 H) (k0_pay12 H) (ix2 k 0) = lit (kscale (k0_pay10 (F := Ideal) H (ix2 k 0))) := rfl
  rw [h, pay10_at, (scale_eq _ (mag_nonneg _ _)).1]; rfl

theorem pay14_at (k : Fin 3) (l : Fin 128) : k0_pay14 (F := Ideal) (k0_pay11 H) (k0_pay12 H) (ix2 k l) = sc H k := by
  unfold k0_pay14
  rw [shapeCast_self, shapeCast_self]
  refine Eq.trans ?_ (pay13_at H k)
  exact congrArg (k0_pay13 (F := Ideal) (k0_pay11 H) (k0_pay12 H)) (Shape.idx_ext₂ rfl rfl)

theorem pay15_at (k : Fin 3) (l : Fin 128) : k0_pay15 (F := Ideal) (k0_pay10 H) (ix2 k l) = iv H k := by
  unfold k0_pay15
  rw [shapeCast_self, shapeCast_self]
  have h : ∀ i : S3x1.Idx, i = ix2 k 0 → (lit (kinv (k0_pay10 (F := Ideal) H i))) = iv H k := fun i hi => by
    rw [hi, pay10_at, (scale_eq _ (mag_nonneg _ _)).2]; rfl
  exact h _ (Shape.idx_ext₂ rfl rfl)

theorem sl_at {α : Type} (v : S3x1.Idx → α) (k : Fin 3) (h : Shape.Slices S3x1 ![k.val, 0] S1x1) (i : S1x1.Idx) :
    extractStridedSlice S1x1 ![k.val, 0] v h i = v (ix2 k 0) := by
  refine extractStridedSlice_apply _ _ _ i (ix2 k 0) fun a => ?_
  match a with
  | ⟨0, _⟩ => have : (i 0).val < 1 := (i 0).isLt
              show k.val = k.val + (i 0).val; omega
  | ⟨1, _⟩ => have : (i 1).val < 1 := (i 1).isLt
              show 0 = 0 + (i 1).val; omega

theorem pay16_eq : k0_pay16 (F := Ideal) (k0_pay11 H) (k0_pay12 H) = fun _ => sc H 0 :=
  funext fun i => (sl_at _ 0 slices_S3x1_o0_0_S1x1 i).trans (pay13_at H 0)
theorem pay17_eq : k0_pay17 (F := Ideal) (k0_pay11 H) (k0_pay12 H) = fun _ => sc H 1 :=
  funext fun i => (sl_at _ 1 slices_S3x1_o1_0_S1x1 i).trans (pay13_at H 1)
theorem pay18_eq : k0_pay18 (F := Ideal) (k0_pay11 H) (k0_pay12 H) = fun _ => sc H 2 :=
  funext fun i => (sl_at _ 2 slices_S3x1_o2_0_S1x1 i).trans (pay13_at H 2)

end Cert.KernelIdeal.Val
-- ==== Proof.Value.Step.lean ====
/- What the scratch buffers hold between grid points, and what each case of the body keeps of it and leaves in the outputs. -/
module

public import proofs.«01_k».proof.Proof.Value.Blocks
public import proofs.«01_k».proof.Proof.Value.Pay
public import proofs.«01_k».proof.Proof.Value.KScale
public import Idealize.ShloMosaic.Lib.VecWindow

@[expose] public section

set_option maxRecDepth 16384

open Idealize Idealize.ShloMosaic Idealize.ShloMosaic.ValueIdx Idealize.ShloMosaic.VecWindow
open Cert.Scale Cert.Spec Cert.KernelIdeal Cert.KernelIdeal.Gen

namespace Cert.KernelIdeal.Val

/-! ### Parts of a buffer -/

/-- A row just stored. -/
theorem put_in {α : Type} {A B a : ℕ} (x : (⟨2, ![A, B]⟩ : Shape).Idx → α) (o : ℕ) (w : (⟨2, ![a, B]⟩ : Shape).Idx → α) (R : Fin A) (k : Fin B) (r : Fin a)
    (h : R.val = o + r.val) :
    put (s := ⟨2, ![A, B]⟩) x ![o, 0] (⟨2, ![a, B]⟩ : Shape).size w (ix2 R k) = w (ix2 r k) := by
  have hr := r.isLt
  have hk := k.isLt
  have hin : ∀ b, (![o, 0] : Fin 2 → ℕ) b ≤ ((ix2 R k : (⟨2, ![A, B]⟩ : Shape).Idx) b).val
      ∧ ((ix2 R k : (⟨2, ![A, B]⟩ : Shape).Idx) b).val < (![o, 0] : Fin 2 → ℕ) b + (⟨2, ![a, B]⟩ : Shape).size b := fun b =>
    match b with
    | ⟨0, _⟩ => show o ≤ R.val ∧ R.val < o + a by omega
    | ⟨1, _⟩ => show 0 ≤ k.val ∧ k.val < 0 + B by omega
  refine (dif_pos hin).trans (congrArg w (Shape.idx_ext₂ ?_ ?_))
  · show R.val - o = r.val; omega
  · show k.val - 0 = k.val; omega

/-- A row outside what was stored. -/
theorem put_out {α : Type} {A B a : ℕ} (x : (⟨2, ![A, B]⟩ : Shape).Idx → α) (o : ℕ) (w : (⟨2, ![a, B]⟩ : Shape).Idx → α) (R : Fin A) (k : Fin B)
    (h : R.val < o ∨ o + a ≤ R.val) :
    put (s := ⟨2, ![A, B]⟩) x ![o, 0] (⟨2, ![a, B]⟩ : Shape).size w (ix2 R k) = x (ix2 R k) :=
  dif_neg fun hin => by
    have : o ≤ R.val ∧ R.val < o + a := hin 0
    omega

/-- The first `n` slabs stored, at rows `o` on. -/
noncomputable def puts (x : S12x3072x256.Idx → EReal) (o : ℕ) (f : ℕ → S1x512x256.Idx → EReal) : ℕ → S12x3072x256.Idx → EReal
  | 0 => x
  | n + 1 => put (puts x o f n) ![n, o, 0] S1x512x256.size (f n)

theorem puts_in (x : S12x3072x256.Idx → EReal) (o : ℕ) (f : ℕ → S1x512x256.Idx → EReal) (n : ℕ) (s : Fin 12) (R : Fin 3072) (k : Fin 256) (r : Fin 512)
    (hs : s.val < n) (h : R.val = o + r.val) : puts x o f n (ix3 s R k) = f s.val (ix3 0 r k) := by
  induction n with
  | zero => omega
  | succ n ih =>
    have hr := r.isLt
    have hk := k.isLt
    by_cases hn : s.val = n
    · have hin : ∀ b, (![n, o, 0] : Fin 3 → ℕ) b ≤ ((ix3 s R k : S12x3072x256.Idx) b).val
          ∧ ((ix3 s R k : S12x3072x256.Idx) b).val < (![n, o, 0] : Fin 3 → ℕ) b + S1x512x256.size b := fun b =>
        match b with
        | ⟨0, _⟩ => show n ≤ s.val ∧ s.val < n + 1 by omega
        | ⟨1, _⟩ => show o ≤ R.val ∧ R.val < o + 512 by omega
        | ⟨2, _⟩ => show 0 ≤ k.val ∧ k.val < 0 + 256 by omega
      refine (dif_pos hin).trans ?_
      rw [hn]
      refine congrArg (f n) (funext fun b => Fin.ext ?_)
      match b with
      | ⟨0, _⟩ => show s.val - n = 0; omega
      | ⟨1, _⟩ => show R.val - o = r.val; omega
      | ⟨2, _⟩ => show k.val - 0 = k.val; omega
    · refine (dif_neg fun hin => ?_).trans (ih (by omega))
      have : n ≤ s.val ∧ s.val < n + 1 := hin 0
      omega

theorem puts_out (x : S12x3072x256.Idx → EReal) (o : ℕ) (f : ℕ → S1x512x256.Idx → EReal) (n : ℕ) (s : Fin 12) (R : Fin 3072) (k : Fin 256)
    (h : R.val < o ∨ o + 512 ≤ R.val) : puts x o f n (ix3 s R k) = x (ix3 s R k) := by
  induction n with
  | zero => rfl
  | succ n ih =>
    refine (dif_neg fun hin => ?_).trans ih
    have : o ≤ R.val ∧ R.val < o + 512 := hin 1
    omega

/-- One entry of the scales' buffer, as a matrix of one. -/
theorem win_at (x : S8x128.Idx → EReal) (r : Fin 8) (inb : ∀ a, (![r.val, 0] : Fin 2 → ℕ) a + S1x1.size a ≤ S8x128.size a) (i : S1x1.Idx) :
    window (s := S8x128) x ![r.val, 0] S1x1.size inb i = x (ix2 r 0) := by
  have h0 : (i 0).val < 1 := (i 0).isLt
  have h1 : (i 1).val < 1 := (i 1).isLt
  refine congrArg x (Shape.idx_ext₂ ?_ ?_)
  · show r.val + 1 * (i 0).val = r.val; omega
  · show 0 + 1 * (i 1).val = 0; omega

/-! ### Folded magnitudes -/

/-- `a` holds the magnitudes of the first `N` rows of `f`: none of its entries is below zero, and it is bounded exactly when they are. -/
def Folded {n : ℕ} {t : Shape} (a : t.Idx → EReal) (f : (⟨2, ![3072, n]⟩ : Shape).Idx → EReal) (N : ℕ) : Prop :=
  (∀ j, 0 ≤ a j) ∧ ∀ b : EReal, 0 ≤ b → ((∀ j, a j ≤ b) ↔ ∀ (r : Fin 3072) (k : Fin n), r.val < N → ab (f (ix2 r k)) ≤ b)

theorem Folded.zero {n : ℕ} {t : Shape} (a : t.Idx → EReal) (f : (⟨2, ![3072, n]⟩ : Shape).Idx → EReal) (ha : ∀ j, a j = 0) : Folded a f 0 :=
  ⟨fun j => (ha j).ge, fun b hb => ⟨fun _ r k h => absurd h (Nat.not_lt_zero _), fun _ j => (ha j).trans_le hb⟩⟩

theorem Folded.same {n : ℕ} {t : Shape} {a : t.Idx → EReal} {f : (⟨2, ![3072, n]⟩ : Shape).Idx → EReal} {N N' : ℕ} (h : Folded a f N)
    (hN : ∀ r, r < 3072 → (r < N ↔ r < N')) : Folded a f N' :=
  ⟨h.1, fun b hb => (h.2 b hb).trans (forall_congr' fun r => forall_congr' fun k => by rw [hN r.val r.isLt])⟩

theorem Folded.step {n m : ℕ} {t : Shape} {a a' : t.Idx → EReal} {f : (⟨2, ![3072, n]⟩ : Shape).Idx → EReal} {N N' : ℕ} (h : Folded a f N)
    (x : (⟨2, ![m, n]⟩ : Shape).Idx → EReal) (hs : (∀ j, a j ≤ a' j) ∧ ∀ b : EReal, (∀ j, a' j ≤ b) ↔ (∀ j, a j ≤ b) ∧ ∀ i, ab (x i) ≤ b)
    (hx : ∀ (r : Fin m) (k : Fin n) (R : Fin 3072), R.val = N + r.val → x (ix2 r k) = f (ix2 R k)) (hN : N' = N + m) (hm : N' ≤ 3072) : Folded a' f N' := by
  refine ⟨fun j => (h.1 j).trans (hs.1 j), fun b hb => ?_⟩
  rw [hs.2 b, h.2 b hb]
  constructor
  · rintro ⟨h1, h2⟩ r k hr
    by_cases hlt : r.val < N
    · exact h1 r k hlt
    · have := h2 (ix2 ⟨r.val - N, by omega⟩ k)
      rwa [hx _ _ r (by show r.val = N + (r.val - N); omega)] at this
  · intro h1
    refine ⟨fun r k hr => h1 r k (by omega), fun i => ?_⟩
    have hi : (i 0).val < m := (i 0).isLt
    have e : (ix2 (i 0) (i 1) : (⟨2, ![m, n]⟩ : Shape).Idx) = i := Shape.idx_ext₂ rfl rfl
    have hxi : x i = f (ix2 ⟨N + (i 0).val, by omega⟩ (i 1)) := (congrArg x e.symm).trans (hx (i 0) (i 1) ⟨N + (i 0).val, by omega⟩ rfl)
    rw [hxi]
    exact h1 _ _ (by show N + (i 0).val < N'; omega)

theorem Folded.top {n : ℕ} {t : Shape} {a : t.Idx → EReal} {f : (⟨2, ![3072, n]⟩ : Shape).Idx → EReal} {N : ℕ} (h : Folded a f N) (hN : 3072 ≤ N) (j : t.Idx)
    (i : (⟨2, ![3072, n]⟩ : Shape).Idx) (v : EReal) (hv : ∀ b, v ≤ b ↔ ∀ j, a j ≤ b) : v = top f := by
  refine eq_of_bounds ((h.1 j).trans ((hv v).mp le_rfl j)) (top_nonneg f i) fun b hb => ?_
  rw [hv b, h.2 b hb, top_le]
  constructor
  · intro h1 i
    have e : i = ix2 (i 0) (i 1) := Shape.idx_ext₂ rfl rfl
    rw [e]
    exact h1 (i 0) (i 1) (lt_of_lt_of_le (i 0).isLt hN)
  · intro h1 r k _
    exact h1 _

/-! ### The invariant -/

variable (m : (b : Loc nD τ sig) → Buf (Elt Ideal) b) (c : Dev nD)

/-- The scales and their inverses. -/
structure Scales (x21 : Vec Ideal S8x128 .f32) : Prop where
  s0 : x21 (ix2 (0 : Fin 8) 0) = sc (H m c) 0
  s1 : x21 (ix2 (1 : Fin 8) 0) = sc (H m c) 1
  s2 : x21 (ix2 (2 : Fin 8) 0) = sc (H m c) 2
  i0 : x21 (ix2 (3 : Fin 8) 0) = iv (H m c) 0
  i1 : x21 (ix2 (4 : Fin 8) 0) = iv (H m c) 1
  i2 : x21 (ix2 (5 : Fin 8) 0) = iv (H m c) 2

/-- Before point `t`, not the first. -/
structure Inv (t : ℕ) (x15 : Vec Ideal S12x3072x256 .fp8e4m3) (x16 : Vec Ideal S3072x2048 .fp8e4m3) (x17 : Vec Ideal S3072x2048 .fp8e5m2)
    (x18 : Vec Ideal S16x3072 .bf16) (x19 x20 : Vec Ideal S16x2048 .bf16) (x21 : Vec Ideal S8x128 .f32) : Prop where
  sc : Scales m c x21
  c15 : ∀ (s : Fin 12) (r : Fin 3072) (k : Fin 256) (K : Fin 3072), r.val < 512 * t - 6144 → K.val = 256 * s.val + k.val → x15 (ix3 s r k) = xq (H m c) (X m c) (ix2 r K)
  c16 : ∀ (r : Fin 3072) (k : Fin 2048), r.val < 256 * t → x16 (ix2 r k) = wq (H m c) (W m c) (ix2 r k)
  c17 : ∀ (r : Fin 3072) (k : Fin 2048), r.val < 512 * t - 6144 → x17 (ix2 r k) = dq (H m c) (D m c) (ix2 r k)
  f18 : Folded x18 (X m c) (512 * t - 6144)
  f19 : Folded x19 (W m c) (256 * t)
  f20 : Folded x20 (D m c) (512 * t - 6144)

variable {m c}
variable {x15 : Vec Ideal S12x3072x256 .fp8e4m3} {x16 : Vec Ideal S3072x2048 .fp8e4m3} {x17 : Vec Ideal S3072x2048 .fp8e5m2}
    {x18 : Vec Ideal S16x3072 .bf16} {x19 x20 : Vec Ideal S16x2048 .bf16} {x21 : Vec Ideal S8x128 .f32}

/-- The scales' buffer after the first point. -/
theorem scales_put (x21 : Vec Ideal S8x128 .f32) :
    Scales m c (put (s := S8x128) (put (s := S8x128) x21 ![0, 0] S3x128.size (k0_pay14 (F := Ideal) (k0_pay11 (H m c)) (k0_pay12 (H m c)))) ![3, 0] S3x128.size (k0_pay15 (F := Ideal) (k0_pay10 (H m c)))) := by
  have hs : ∀ (k : Fin 3) (r : Fin 8), r.val = k.val →
      put (s := S8x128) (put (s := S8x128) x21 ![0, 0] S3x128.size (k0_pay14 (F := Ideal) (k0_pay11 (H m c)) (k0_pay12 (H m c)))) ![3, 0] S3x128.size (k0_pay15 (F := Ideal) (k0_pay10 (H m c))) (ix2 r 0) = sc (H m c) k := by
    intro k r h
    have := k.isLt
    refine (put_out _ 3 _ r 0 (by omega)).trans ?_
    exact (put_in _ 0 _ r 0 k (by omega)).trans (pay14_at (H m c) k 0)
  have hi : ∀ (k : Fin 3) (r : Fin 8), r.val = 3 + k.val →
      put (s := S8x128) (put (s := S8x128) x21 ![0, 0] S3x128.size (k0_pay14 (F := Ideal) (k0_pay11 (H m c)) (k0_pay12 (H m c)))) ![3, 0] S3x128.size (k0_pay15 (F := Ideal) (k0_pay10 (H m c))) (ix2 r 0) = iv (H m c) k := by
    intro k r h
    exact (put_in _ 3 _ r 0 k h).trans (pay15_at (H m c) k 0)
  exact ⟨hs 0 0 rfl, hs 1 1 rfl, hs 2 2 rfl, hi 0 3 rfl, hi 1 4 rfl, hi 2 5 rfl⟩

/-! ### The weights' phase -/

/-- A block of the weights. -/
def IsW (t : ℕ) (x : Vec Ideal S256x2048 .bf16) : Prop := ∀ (r : Fin 256) (k : Fin 2048) (R : Fin 3072), R.val = 256 * min t 11 + r.val → x (ix2 r k) = W m c (ix2 R k)

theorem outW {t : ℕ} {x3 : Vec Ideal S256x2048 .bf16} (h3 : IsW (m := m) (c := c) t x3) (v : Vec Ideal S1x1 .f32) (hv : ∀ i, v i = iv (H m c) 1) : k0_pay5 x3 v = L9 m c t := by
  funext i
  obtain ⟨r, k, rfl⟩ : ∃ (r : Fin 256) (k : Fin 2048), i = ix2 r k := ⟨i 0, i 1, Shape.idx_ext₂ rfl rfl⟩
  rw [pay5_at x3 v _ hv, h3 r k (r256 t r) rfl]
  rfl

theorem stepW16 {t : ℕ} (ht : t < 12) {x3 : Vec Ideal S256x2048 .bf16} (h3 : IsW (m := m) (c := c) t x3) (v : Vec Ideal S1x1 .f32) (hv : ∀ i, v i = iv (H m c) 1)
    (h : ∀ (r : Fin 3072) (k : Fin 2048), r.val < 256 * t → x16 (ix2 r k) = wq (H m c) (W m c) (ix2 r k)) (o : ℕ) (ho : o = 256 * t) (r : Fin 3072) (k : Fin 2048) (hr : r.val < 256 * (t + 1)) :
    put (s := S3072x2048) x16 ![o, 0] S256x2048.size (k0_pay6 x3 v) (ix2 r k) = wq (H m c) (W m c) (ix2 r k) := by
  subst ho
  by_cases hlt : r.val < 256 * t
  · exact (put_out x16 (256 * t) (k0_pay6 x3 v) r k (.inl hlt)).trans (h r k hlt)
  · refine (put_in x16 (256 * t) (k0_pay6 x3 v) r k ⟨r.val - 256 * t, by omega⟩ (by show r.val = 256 * t + (r.val - 256 * t); omega)).trans ?_
    rw [pay6_eq, pay5_at x3 v _ hv, h3 _ _ r (by show r.val = 256 * min t 11 + (r.val - 256 * t); omega)]
    rfl

theorem invA {x3 : Vec Ideal S256x2048 .bf16} (h3 : IsW (m := m) (c := c) 0 x3) (hsc : Scales m c x21) (v : Vec Ideal S1x1 .f32) (hv : ∀ i, v i = iv (H m c) 1) :
    Inv m c 1 x15 (put (s := S3072x2048) x16 ![0, 0] S256x2048.size (k0_pay6 x3 v)) x17 (k0_pay1 (F := Ideal) k0_pay19) (k0_pay4 x3 (k0_pay2 (F := Ideal))) (k0_pay3 (F := Ideal)) x21 where
  sc := hsc
  c15 _ r _ _ hr _ := absurd hr (by omega)
  c16 r k hr := stepW16 (t := 0) (by omega) h3 v hv (fun r _ hr => absurd hr (by omega)) 0 rfl r k hr
  c17 r k hr := absurd hr (by omega)
  f18 := Folded.zero _ _ pay1_zero
  f19 := (Folded.zero _ _ pay2_zero).step x3 (pay4_step x3 (k0_pay2 (F := Ideal))) (fun r k R hR => h3 r k R (by omega)) rfl (by omega)
  f20 := Folded.zero _ _ pay3_zero

theorem invB {t : ℕ} (ht : t < 12) {x3 : Vec Ideal S256x2048 .bf16} (h3 : IsW (m := m) (c := c) t x3) (h : Inv m c t x15 x16 x17 x18 x19 x20 x21)
    (v : Vec Ideal S1x1 .f32) (hv : ∀ i, v i = iv (H m c) 1) (o : ℕ) (ho : o = 256 * t) :
    Inv m c (t + 1) x15 (put (s := S3072x2048) x16 ![o, 0] S256x2048.size (k0_pay6 x3 v)) x17 x18 (k0_pay4 x3 x19) x20 x21 where
  sc := h.sc
  c15 _ r _ _ hr _ := absurd hr (by omega)
  c16 r k hr := stepW16 ht h3 v hv h.c16 o ho r k hr
  c17 r k hr := absurd hr (by omega)
  f18 := h.f18.same fun r _ => by omega
  f19 := h.f19.step x3 (pay4_step x3 x19) (fun r k R hR => h3 r k R (by omega)) (by omega) (by omega)
  f20 := h.f20.same fun r _ => by omega

/-! ### The rows' phase -/

/-- A block of the activations, or of the output's gradient. -/
def IsX (t : ℕ) (x : Vec Ideal S512x3072 .bf16) : Prop := ∀ (r : Fin 512) (k : Fin 3072) (R : Fin 3072), R.val = 512 * min (t - 12) 5 + r.val → x (ix2 r k) = X m c (ix2 R k)
def IsD (t : ℕ) (x : Vec Ideal S512x2048 .bf16) : Prop := ∀ (r : Fin 512) (k : Fin 2048) (R : Fin 3072), R.val = 512 * min (t - 12) 5 + r.val → x (ix2 r k) = D m c (ix2 R k)

theorem outX {t : ℕ} {x2 : Vec Ideal S512x3072 .bf16} (h2 : IsX (m := m) (c := c) t x2) (v : Vec Ideal S1x1 .f32) (hv : ∀ i, v i = iv (H m c) 0) : k0_pay22 x2 v = L7 m c t := by
  funext i
  obtain ⟨r, k, rfl⟩ : ∃ (r : Fin 512) (k : Fin 3072), i = ix2 r k := ⟨i 0, i 1, Shape.idx_ext₂ rfl rfl⟩
  rw [pay22_at x2 v _ hv, h2 r k (r512 (t - 12) r) rfl]
  rfl

theorem outD {t : ℕ} {x4 : Vec Ideal S512x2048 .bf16} (h4 : IsD (m := m) (c := c) t x4) (v : Vec Ideal S1x1 .f32) (hv : ∀ i, v i = iv (H m c) 2) :
    k0_pay41 (k0_pay39 x4) (k0_pay40 v) = L11 m c t := by
  funext i
  obtain ⟨r, k, rfl⟩ : ∃ (r : Fin 512) (k : Fin 2048), i = ix2 r k := ⟨i 0, i 1, Shape.idx_ext₂ rfl rfl⟩
  rw [pay41_at x4 v _ hv, h4 r k (r512 (t - 12) r) rfl]
  rfl

theorem outY {t : ℕ} (h : Inv m c t x15 x16 x17 x18 x19 x20 x21) (ht : 12 ≤ t) {q : Vec Ideal S512x3072 .fp8e4m3} (hq : q = L7 m c t) (u v : Vec Ideal S1x1 .f32)
    (hu : ∀ i, u i = Spec.sc (H m c) 0) (hv : ∀ i, v i = Spec.sc (H m c) 1) : k0_pay43 q x16 u v = L4 m c t := by
  funext i
  obtain ⟨a, b, l, rfl⟩ : ∃ (a : Fin 64) (b : Fin 8) (l : Fin 2048), i = ix3 a b l := ⟨i 0, i 1, i 2, funext fun a => match a with | ⟨0, _⟩ => rfl | ⟨1, _⟩ => rfl | ⟨2, _⟩ => rfl⟩
  refine (pay43_at q x16 u v _ _ hu hv a b l).trans ?_
  show _ = (∑ k : Fin 3072, _) * _
  refine congrArg (· * _) (Finset.sum_congr rfl fun k _ => ?_)
  rw [hq, h.c16 k l (by have := k.isLt; omega)]
  refine congrArg (· * _) (congrArg (xq (H m c) (X m c)) (Shape.idx_ext₂ ?_ rfl))
  show 512 * min (t - 12) 5 + (a.val * 8 + b.val) = (64 * min (t - 12) 5 + a.val) * 8 + b.val
  omega

theorem outDx {t : ℕ} (h : Inv m c t x15 x16 x17 x18 x19 x20 x21) (ht : 12 ≤ t) {q : Vec Ideal S512x2048 .fp8e5m2} (hq : q = L11 m c t) (u v : Vec Ideal S1x1 .f32)
    (hu : ∀ i, u i = Spec.sc (H m c) 2) (hv : ∀ i, v i = Spec.sc (H m c) 1) : k0_pay7 (k0_pay44 q x16) u v = L5 m c t := by
  funext i
  obtain ⟨a, b, l, rfl⟩ : ∃ (a : Fin 64) (b : Fin 8) (l : Fin 3072), i = ix3 a b l := ⟨i 0, i 1, i 2, funext fun a => match a with | ⟨0, _⟩ => rfl | ⟨1, _⟩ => rfl | ⟨2, _⟩ => rfl⟩
  refine (pay7_at q x16 u v _ _ hu hv a b l).trans ?_
  show _ = (∑ k : Fin 2048, _) * _
  refine congrArg (· * _) (Finset.sum_congr rfl fun k _ => ?_)
  rw [hq, h.c16 l k (by have := l.isLt; omega)]
  refine congrArg (· * _) (congrArg (dq (H m c) (D m c)) (Shape.idx_ext₂ ?_ rfl))
  show 512 * min (t - 12) 5 + (a.val * 8 + b.val) = (64 * min (t - 12) 5 + a.val) * 8 + b.val
  omega

theorem invC {t : ℕ} (ht : 12 ≤ t) (ht' : t < 18) {x2 : Vec Ideal S512x3072 .bf16} (h2 : IsX (m := m) (c := c) t x2) {x4 : Vec Ideal S512x2048 .bf16} (h4 : IsD (m := m) (c := c) t x4)
    (h : Inv m c t x15 x16 x17 x18 x19 x20 x21) (v w : Vec Ideal S1x1 .f32) (hv : ∀ i, v i = iv (H m c) 0) (hw : ∀ i, w i = iv (H m c) 2) (o : ℕ) (ho : o = 512 * t - 6144) :
    Inv m c (t + 1) (puts x15 o (slab x2 v) 12) x16 (put (s := S3072x2048) x17 ![o, 0] S512x2048.size (k0_pay42 (k0_pay39 x4) (k0_pay40 w)))
      (k0_pay21 x2 x18) x19 (k0_pay38 x4 x20) x21 where
  sc := h.sc
  c15 s r k K hr hK := by
    by_cases hlt : r.val < o
    · exact (puts_out x15 _ _ 12 s r k (.inl hlt)).trans (h.c15 s r k K (by omega) hK)
    · refine (puts_in x15 _ _ 12 s r k ⟨r.val - (o), by omega⟩ s.isLt (by show r.val = o + (r.val - (o)); omega)).trans ?_
      rw [slab_eq x2 v s.val s.isLt, pay22_at x2 v _ hv, h2 _ _ r (by show r.val = 512 * min (t - 12) 5 + (r.val - (o)); omega)]
      show code (X m c _) _ = code (X m c _) _
      rw [show (⟨256 * s.val + k.val, by have := k.isLt; have := s.isLt; omega⟩ : Fin 3072) = K from Fin.ext hK.symm]
  c16 r k _ := h.c16 r k (by have := r.isLt; omega)
  c17 r k hr := by
    by_cases hlt : r.val < o
    · exact (put_out x17 _ (k0_pay42 (k0_pay39 x4) (k0_pay40 w)) r k (.inl hlt)).trans (h.c17 r k (by omega))
    · refine (put_in x17 _ (k0_pay42 (k0_pay39 x4) (k0_pay40 w)) r k ⟨r.val - (o), by omega⟩ (by show r.val = o + (r.val - (o)); omega)).trans ?_
      rw [pay42_eq, pay41_at x4 w _ hw, h4 _ _ r (by show r.val = 512 * min (t - 12) 5 + (r.val - (o)); omega)]
      rfl
  f18 := h.f18.step x2 (pay21_step x2 x18) (fun r k R hR => h2 r k R (by omega)) (by omega) (by omega)
  f19 := h.f19.same fun r hr => by omega
  f20 := h.f20.step x4 (pay38_step x4 x20) (fun r k R hR => h4 r k R (by omega)) (by omega) (by omega)

/-- The new history, from the folds complete. -/
theorem outH (h : Inv m c 18 x15 x16 x17 x18 x19 x20 x21) : k0_pay8 (H m c) x18 x19 x20 = O13 m c := by
  funext i
  have e : i = ix2 (i 0) (i 1) := Shape.idx_ext₂ rfl rfl
  rw [e]
  exact pay8_at (H m c) (X m c) (W m c) (D m c) x18 x19 x20
    (h.f18.top (by omega) (ix2 0 0) (ix2 0 0)) (h.f19.top (by omega) (ix2 0 0) (ix2 0 0)) (h.f20.top (by omega) (ix2 0 0) (ix2 0 0)) (i 0) (i 1)

/-! ### The weights' gradient -/

theorem outDw {t : ℕ} (h : Inv m c t x15 x16 x17 x18 x19 x20 x21) (ht : 18 ≤ t) (ht' : t < 30) (o : ℕ) (ho : o = t - 18)
    (inb : ∀ a, (![o, 0, 0] : Fin 3 → ℕ) a + S1x3072x256.size a ≤ S12x3072x256.size a) (u v : Vec Ideal S1x1 .f32)
    (hu : ∀ i, u i = Spec.sc (H m c) 0) (hv : ∀ i, v i = Spec.sc (H m c) 2) :
    k0_pay9 (window (s := S12x3072x256) x15 ![o, 0, 0] S1x3072x256.size inb) x17 u v = L6 m c t := by
  subst ho
  funext i
  have e : i = ix2 (i 0) (i 1) := Shape.idx_ext₂ rfl rfl
  rw [e]
  refine (pay9_at _ x17 u v _ _ hu hv (i 0) (i 1)).trans ?_
  show _ = (∑ k : Fin 3072, _) * _
  refine congrArg (· * _) (Finset.sum_congr rfl fun k _ => ?_)
  have hk := k.isLt
  have hw : window (s := S12x3072x256) x15 ![t - 18, 0, 0] S1x3072x256.size inb (ix3 0 k (i 0)) = x15 (ix3 ⟨t - 18, by omega⟩ k (i 0)) := by
    refine congrArg x15 (funext fun a => Fin.ext ?_)
    match a with
    | ⟨0, _⟩ => show t - 18 + 1 * 0 = t - 18; omega
    | ⟨1, _⟩ => show 0 + 1 * k.val = k.val; omega
    | ⟨2, _⟩ => show 0 + 1 * (i 0).val = (i 0).val; omega
  rw [h.c17 k (i 1) (by omega)]
  refine congrArg (· * _) (hw.trans (h.c15 _ k (i 0) (r256 (t - 18) (i 0)) (by omega) ?_))
  show 256 * min (t - 18) 11 + (i 0).val = 256 * (t - 18) + (i 0).val
  omega

theorem invE {t : ℕ} (ht : 18 ≤ t) (h : Inv m c t x15 x16 x17 x18 x19 x20 x21) : Inv m c (t + 1) x15 x16 x17 x18 x19 x20 x21 where
  sc := h.sc
  c15 s r k K _ hK := h.c15 s r k K (by have := r.isLt; omega) hK
  c16 r k _ := h.c16 r k (by have := r.isLt; omega)
  c17 r k _ := h.c17 r k (by have := r.isLt; omega)
  f18 := h.f18.same fun r hr => by omega
  f19 := h.f19.same fun r hr => by omega
  f20 := h.f20.same fun r hr => by omega

end Cert.KernelIdeal.Val
-- ==== Proof.Value.Reads.lean ====
/- What a load reads of a buffer whose contents are known. -/
module

public import proofs.«01_k».proof.Proof.Frame.KernelIdeal
public import Idealize.ShloMosaic.Lib.VecWindow

@[expose] public section

namespace Cert.KernelIdeal.Val

open Idealize.ShloMosaic Idealize.ShloMosaic.VecWindow

variable {F : FTy → Type} [FloatOps F] {nD : ℕ} {sig : RefSig} {κ : Kind} {sp : Space} {s : Shape} {e : EltTy}

/-- A load of the whole of a buffer held at `x`. -/
theorem rd_full {m : Memref sig κ sp s e} (h : m.IsWhole) (x : s.Idx → Elt F e) {off : Fin s.rank → ℕ} (inb : ∀ a, off a + s.size a ≤ s.size a) :
    m.view.readAt (Elt F) (Rect.unit off s.size inb).toLoadRect (h.unread x) = x := by
  rw [View.readAt_full, h.read_unread]

/-- A load of a part of it. -/
theorem rd_win {m : Memref sig κ sp s e} (h : m.IsWhole) (x : s.Idx → Elt F e) {off size : Fin s.rank → ℕ} (inb : ∀ a, off a + size a ≤ s.size a) :
    m.view.readAt (Elt F) (Rect.unit off size inb).toLoadRect (h.unread x) = window x off size inb := by
  rw [View.readAt_unit _ _ inb rfl inb, h.read_unread]

/-- The same, the offsets written another way. -/
theorem rd_win' {m : Memref sig κ sp s e} (h : m.IsWhole) (x : s.Idx → Elt F e) {off off' size : Fin s.rank → ℕ} (inb : ∀ a, off a + size a ≤ s.size a)
    (ho : off = off') (inb' : ∀ a, off' a + size a ≤ s.size a) :
    m.view.readAt (Elt F) (Rect.unit off size inb).toLoadRect (h.unread x) = window x off' size inb' := by
  rw [View.readAt_unit _ _ inb ho inb', h.read_unread]

/-- A load inside the last store, whatever lies under it. -/
theorem rd_inside [∀ e, Nonempty (Elt F e)] (v : View sig κ sp s e) (L : List (View.Piece (Elt F) s e)) (x : s.Idx → Elt F e) {off off' size size' : Fin s.rank → ℕ}
    (inb : ∀ a, off a + size a ≤ s.size a) (inb' : ∀ a, off' a + size' a ≤ s.size a) (w w' : (Rect.unit off size inb).shape.Idx → Elt F e) (hw : w = w')
    (h : ∀ a, off a ≤ off' a ∧ off' a + size' a ≤ off a + size a) :
    v.readCov (⟨Rect.unit off size inb, w⟩ :: L) (Rect.unit off' size' inb').toLoadRect = window (put x off size w') off' size' inb' := by
  subst hw
  unfold View.readCov
  rw [View.readAt_unit _ _ inb' rfl inb', View.read_writes_cons_put _ _ inb w L rfl]
  exact (window_put_of_inside _ off size off' size' inb' w h).trans (window_put_of_inside x off size off' size' inb' w h).symm

end Cert.KernelIdeal.Val
-- ==== Proof.Value.RunA.lean ====
/- The contents the body leaves, case A. -/
module

public import proofs.«01_k».proof.Proof.Frame.KernelIdeal
public import proofs.«01_k».proof.Proof.Value.Reads

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

theorem off1z_at : ∀ i : grid0.Coords, cond0_0 i → k0_off1 i = ![0, 0] := by decide +kernel

set_option maxHeartbeats 8000000 in
/-- The body at the first point, from any contents of the scratch. -/
theorem runA (c : Dev nD) (i : grid0.Coords) (arg1 : Memref sig .tc .vmem S3x16 .f32) (harg1 : arg1.IsWhole) (arg2 : Memref sig .tc .vmem S512x3072 .bf16) (harg2 : arg2.IsWhole) (arg3 : Memref sig .tc .vmem S256x2048 .bf16) (harg3 : arg3.IsWhole) (arg4 : Memref sig .tc .vmem S512x2048 .bf16) (harg4 : arg4.IsWhole) (arg5 : Memref sig .tc .vmem S64x8x2048 .bf16) (harg5 : arg5.IsWhole) (arg6 : Memref sig .tc .vmem S64x8x3072 .bf16) (harg6 : arg6.IsWhole) (arg7 : Memref sig .tc .vmem S256x2048 .f32) (harg7 : arg7.IsWhole) (arg8 : Memref sig .tc .vmem S512x3072 .fp8e4m3) (harg8 : arg8.IsWhole) (arg9 : Memref sig .tc .vmem S1x1 .f32) (harg9 : arg9.IsWhole) (arg10 : Memref sig .tc .vmem S256x2048 .fp8e4m3) (harg10 : arg10.IsWhole) (arg11 : Memref sig .tc .vmem S1x1 .f32) (harg11 : arg11.IsWhole) (arg12 : Memref sig .tc .vmem S512x2048 .fp8e5m2) (harg12 : arg12.IsWhole) (arg13 : Memref sig .tc .vmem S1x1 .f32) (harg13 : arg13.IsWhole) (arg14 : Memref sig .tc .vmem S3x16 .f32) (harg14 : arg14.IsWhole) (arg15 : Memref sig .tc .vmem S12x3072x256 .fp8e4m3) (harg15 : arg15.IsWhole) (arg16 : Memref sig .tc .vmem S3072x2048 .fp8e4m3) (harg16 : arg16.IsWhole) (arg17 : Memref sig .tc .vmem S3072x2048 .fp8e5m2) (harg17 : arg17.IsWhole) (arg18 : Memref sig .tc .vmem S16x3072 .bf16) (harg18 : arg18.IsWhole) (arg19 : Memref sig .tc .vmem S16x2048 .bf16) (harg19 : arg19.IsWhole) (arg20 : Memref sig .tc .vmem S16x2048 .bf16) (harg20 : arg20.IsWhole) (arg21 : Memref sig .tc .vmem S8x128 .f32) (harg21 : arg21.IsWhole) (hc0 : cond0_0 i) (hc1 : cond0_1 i) (hc2 : ¬cond0_2 i) (hc3 : ¬cond0_3 i) (hc4 : ¬cond0_4 i)
    (x1 : Vec F S3x16 .f32) (x3 : Vec F S256x2048 .bf16) (x16 : Vec F S3072x2048 .fp8e4m3) (x18 : Vec F S16x3072 .bf16) (x19 : Vec F S16x2048 .bf16) (x20 : Vec F S16x2048 .bf16) (x21 : Vec F S8x128 .f32) (E : Set ℕ) (K : PUnit → sProp 𝕄) :
    iprop(owns (c : Thread nD τ) arg1 fullShare x1 ∗ owns (c : Thread nD τ) arg3 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg13 fullShare d) ∗ owns (c : Thread nD τ) arg16 fullShare x16 ∗ owns (c : Thread nD τ) arg18 fullShare x18 ∗ owns (c : Thread nD τ) arg19 fullShare x19 ∗ owns (c : Thread nD τ) arg20 fullShare x20 ∗ owns (c : Thread nD τ) arg21 fullShare x21
      ∗ (iprop(owns (c : Thread nD τ) arg1 fullShare x1 ∗ owns (c : Thread nD τ) arg3 fullShare x3 ∗ owns (c : Thread nD τ) arg9 fullShare (k0_pay16 (F := F) (k0_pay11 x1) (k0_pay12 x1)) ∗ owns (c : Thread nD τ) arg10 fullShare (k0_pay5 x3 (window (put (put x21 ![0, 0] S3x128.size (k0_pay14 (F := F) (k0_pay11 x1) (k0_pay12 x1))) ![3, 0] S3x128.size (k0_pay15 (F := F) (k0_pay10 x1))) ![4, 0] S1x1.size inb_S8x128_S1x1_4_0)) ∗ owns (c : Thread nD τ) arg11 fullShare (k0_pay17 (F := F) (k0_pay11 x1) (k0_pay12 x1)) ∗ owns (c : Thread nD τ) arg13 fullShare (k0_pay18 (F := F) (k0_pay11 x1) (k0_pay12 x1)) ∗ owns (c : Thread nD τ) arg16 fullShare (put x16 ![0, 0] S256x2048.size (k0_pay6 x3 (window (put (put x21 ![0, 0] S3x128.size (k0_pay14 (F := F) (k0_pay11 x1) (k0_pay12 x1))) ![3, 0] S3x128.size (k0_pay15 (F := F) (k0_pay10 x1))) ![4, 0] S1x1.size inb_S8x128_S1x1_4_0))) ∗ owns (c : Thread nD τ) arg18 fullShare (k0_pay1 (F := F) k0_pay19) ∗ owns (c : Thread nD τ) arg19 fullShare (k0_pay4 x3 (k0_pay2 (F := F))) ∗ owns (c : Thread nD τ) arg20 fullShare (k0_pay3 (F := F)) ∗ owns (c : Thread nD τ) arg21 fullShare ((put (put x21 ![0, 0] S3x128.size (k0_pay14 (F := F) (k0_pay11 x1) (k0_pay12 x1))) ![3, 0] S3x128.size (k0_pay15 (F := F) (k0_pay10 x1))))) -∗ K ⟨⟩))
      ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__step_kernel_eq_skeleton]; unfold cc0__step_kernel_skel
  simp only [k0_part1_eq_skeleton, k0_part2_eq_skeleton, k0_part3_eq_skeleton, k0_part4_eq_skeleton, k0_part5_eq_skeleton, k0_part6_eq_skeleton]
  unfold owns
  iintro ⟨⟨%f1, %hf1, H1⟩, ⟨%f3, %hf3, H3⟩, ⟨%d9, %f9, -, H9⟩, ⟨%d10, %f10, -, H10⟩, ⟨%d11, %f11, -, H11⟩, ⟨%d13, %f13, -, H13⟩, ⟨%f16, %hf16, H16⟩, ⟨%f18, %hf18, H18⟩, ⟨%f19, %hf19, H19⟩, ⟨%f20, %hf20, H20⟩, ⟨%f21, %hf21, H21⟩, Hk⟩
  obtain rfl := harg1.eq_unread hf1; obtain rfl := harg3.eq_unread hf3; obtain rfl := harg16.eq_unread hf16; obtain rfl := harg18.eq_unread hf18; obtain rfl := harg19.eq_unread hf19; obtain rfl := harg20.eq_unread hf20; obtain rfl := harg21.eq_unread hf21
  sl_exec (disch := first | sl_exact hc0 | sl_exact hc1 | sl_exact hc2 | sl_exact hc3 | sl_exact hc4)
  sl_step
  iapply Hk
  isplitl [H1]
  · iexists _; isplitr; swap; · iexact H1
    ipureintro
    exact harg1.read_unread _
  isplitl [H3]
  · iexists _; isplitr; swap; · iexact H3
    ipureintro
    exact harg3.read_unread _
  isplitl [H9]
  · iexists _; isplitr; swap; · iexact H9
    ipureintro
    exact (View.read_writes_full _ _ _ _ _).trans (congr (congrArg (k0_pay16 (F := F)) (congrArg (k0_pay11 (F := F)) (rd_full _ _ _))) (congrArg (k0_pay12 (F := F)) (rd_full _ _ _)))
  isplitl [H10]
  · iexists _; isplitr; swap; · iexact H10
    ipureintro
    exact (View.read_writes_full _ _ _ _ _).trans (congr (congrArg k0_pay5 (rd_full _ _ _)) (rd_inside _ _ _ _ _ _ _ (congrArg (k0_pay15 (F := F)) (congrArg (k0_pay10 (F := F)) (rd_full _ _ _))) (Fin.forall_fin_two.mpr ⟨by decide, by decide⟩)))
  isplitl [H11]
  · iexists _; isplitr; swap; · iexact H11
    ipureintro
    exact (View.read_writes_full _ _ _ _ _).trans (congr (congrArg (k0_pay17 (F := F)) (congrArg (k0_pay11 (F := F)) (rd_full _ _ _))) (congrArg (k0_pay12 (F := F)) (rd_full _ _ _)))
  isplitl [H13]
  · iexists _; isplitr; swap; · iexact H13
    ipureintro
    exact (View.read_writes_full _ _ _ _ _).trans (congr (congrArg (k0_pay18 (F := F)) (congrArg (k0_pay11 (F := F)) (rd_full _ _ _))) (congrArg (k0_pay12 (F := F)) (rd_full _ _ _)))
  isplitl [H16]
  · iexists _; isplitr; swap; · iexact H16
    ipureintro
    exact (View.read_writes_cons_put _ _ _ _ _ (off1z_at i hc0)).trans (congrArg₂ (fun a b => put a _ _ b) (harg16.read_unread _) (congr (congrArg k0_pay6 (rd_full _ _ _)) (rd_inside _ _ _ _ _ _ _ (congrArg (k0_pay15 (F := F)) (congrArg (k0_pay10 (F := F)) (rd_full _ _ _))) (Fin.forall_fin_two.mpr ⟨by decide, by decide⟩))))
  isplitl [H18]
  · iexists _; isplitr; swap; · iexact H18
    ipureintro
    exact (View.read_writes_full _ _ _ _ _).trans rfl
  isplitl [H19]
  · iexists _; isplitr; swap; · iexact H19
    ipureintro
    exact (View.read_writes_full _ _ _ _ _).trans (congr (congrArg k0_pay4 (rd_full _ _ _)) (View.readCov_full _ _ _ _ _))
  isplitl [H20]
  · iexists _; isplitr; swap; · iexact H20
    ipureintro
    exact (View.read_writes_full _ _ _ _ _).trans rfl
  · iexists _; isplitr; swap; · iexact H21
    ipureintro
    sl_unfold_run_names
    refine (View.read_writes_cons_put _ _ _ _ _ rfl).trans (congrArg₂ (fun a b => put a _ _ b) ?_ (congrArg (k0_pay15 (F := F)) (congrArg (k0_pay10 (F := F)) (rd_full _ _ _))))
    exact (View.read_writes_cons_put _ _ _ _ _ rfl).trans (congrArg₂ (fun a b => put a _ _ b) (harg21.read_unread _) (congr (congrArg (k0_pay14 (F := F)) (congrArg (k0_pay11 (F := F)) (rd_full _ _ _))) (congrArg (k0_pay12 (F := F)) (rd_full _ _ _))))

end Cert.KernelIdeal.Val

end
-- ==== Proof.Value.RunB.lean ====
/- The contents the body leaves, case B. -/
module

public import proofs.«01_k».proof.Proof.Frame.KernelIdeal
public import proofs.«01_k».proof.Proof.Value.Reads

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

theorem off1_at : ∀ i : grid0.Coords, cond0_1 i → k0_off1 i = ![256 * (i 0).val, 0] := by decide +kernel

set_option maxHeartbeats 8000000 in
/-- The body at the other weight points. -/
theorem runB (c : Dev nD) (i : grid0.Coords) (arg1 : Memref sig .tc .vmem S3x16 .f32) (harg1 : arg1.IsWhole) (arg2 : Memref sig .tc .vmem S512x3072 .bf16) (harg2 : arg2.IsWhole) (arg3 : Memref sig .tc .vmem S256x2048 .bf16) (harg3 : arg3.IsWhole) (arg4 : Memref sig .tc .vmem S512x2048 .bf16) (harg4 : arg4.IsWhole) (arg5 : Memref sig .tc .vmem S64x8x2048 .bf16) (harg5 : arg5.IsWhole) (arg6 : Memref sig .tc .vmem S64x8x3072 .bf16) (harg6 : arg6.IsWhole) (arg7 : Memref sig .tc .vmem S256x2048 .f32) (harg7 : arg7.IsWhole) (arg8 : Memref sig .tc .vmem S512x3072 .fp8e4m3) (harg8 : arg8.IsWhole) (arg9 : Memref sig .tc .vmem S1x1 .f32) (harg9 : arg9.IsWhole) (arg10 : Memref sig .tc .vmem S256x2048 .fp8e4m3) (harg10 : arg10.IsWhole) (arg11 : Memref sig .tc .vmem S1x1 .f32) (harg11 : arg11.IsWhole) (arg12 : Memref sig .tc .vmem S512x2048 .fp8e5m2) (harg12 : arg12.IsWhole) (arg13 : Memref sig .tc .vmem S1x1 .f32) (harg13 : arg13.IsWhole) (arg14 : Memref sig .tc .vmem S3x16 .f32) (harg14 : arg14.IsWhole) (arg15 : Memref sig .tc .vmem S12x3072x256 .fp8e4m3) (harg15 : arg15.IsWhole) (arg16 : Memref sig .tc .vmem S3072x2048 .fp8e4m3) (harg16 : arg16.IsWhole) (arg17 : Memref sig .tc .vmem S3072x2048 .fp8e5m2) (harg17 : arg17.IsWhole) (arg18 : Memref sig .tc .vmem S16x3072 .bf16) (harg18 : arg18.IsWhole) (arg19 : Memref sig .tc .vmem S16x2048 .bf16) (harg19 : arg19.IsWhole) (arg20 : Memref sig .tc .vmem S16x2048 .bf16) (harg20 : arg20.IsWhole) (arg21 : Memref sig .tc .vmem S8x128 .f32) (harg21 : arg21.IsWhole) (hc0 : ¬cond0_0 i) (hc1 : cond0_1 i) (hc2 : ¬cond0_2 i) (hc3 : ¬cond0_3 i) (hc4 : ¬cond0_4 i)
    (x3 : Vec F S256x2048 .bf16) (x16 : Vec F S3072x2048 .fp8e4m3) (x19 : Vec F S16x2048 .bf16) (x21 : Vec F S8x128 .f32) (E : Set ℕ) (K : PUnit → sProp 𝕄) :
    iprop(owns (c : Thread nD τ) arg3 fullShare x3 ∗ (∃ d, owns (c : Thread nD τ) arg10 fullShare d) ∗ owns (c : Thread nD τ) arg16 fullShare x16 ∗ owns (c : Thread nD τ) arg19 fullShare x19 ∗ owns (c : Thread nD τ) arg21 fullShare x21
      ∗ (iprop(owns (c : Thread nD τ) arg3 fullShare x3 ∗ owns (c : Thread nD τ) arg10 fullShare (k0_pay5 x3 (window x21 ![4, 0] S1x1.size inb_S8x128_S1x1_4_0)) ∗ owns (c : Thread nD τ) arg16 fullShare (put x16 ![256 * (i 0).val, 0] S256x2048.size (k0_pay6 x3 (window x21 ![4, 0] S1x1.size inb_S8x128_S1x1_4_0))) ∗ owns (c : Thread nD τ) arg19 fullShare (k0_pay4 x3 x19) ∗ owns (c : Thread nD τ) arg21 fullShare (x21)) -∗ K ⟨⟩))
      ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__step_kernel_eq_skeleton]; unfold cc0__step_kernel_skel
  simp only [k0_part1_eq_skeleton, k0_part2_eq_skeleton, k0_part3_eq_skeleton, k0_part4_eq_skeleton, k0_part5_eq_skeleton, k0_part6_eq_skeleton]
  unfold owns
  iintro ⟨⟨%f3, %hf3, H3⟩, ⟨%d10, %f10, -, H10⟩, ⟨%f16, %hf16, H16⟩, ⟨%f19, %hf19, H19⟩, ⟨%f21, %hf21, H21⟩, Hk⟩
  obtain rfl := harg3.eq_unread hf3; obtain rfl := harg16.eq_unread hf16; obtain rfl := harg19.eq_unread hf19; obtain rfl := harg21.eq_unread hf21
  sl_exec (disch := first | sl_exact hc0 | sl_exact hc1 | sl_exact hc2 | sl_exact hc3 | sl_exact hc4)
  sl_step
  iapply Hk
  isplitl [H3]
  · iexists _; isplitr; swap; · iexact H3
    ipureintro
    exact harg3.read_unread _
  isplitl [H10]
  · iexists _; isplitr; swap; · iexact H10
    ipureintro
    exact (View.read_writes_full _ _ _ _ _).trans (congr (congrArg k0_pay5 (rd_full _ _ _)) (rd_win _ _ _))
  isplitl [H16]
  · iexists _; isplitr; swap; · iexact H16
    ipureintro
    exact (View.read_writes_cons_put _ _ _ _ _ (off1_at i hc1)).trans (congrArg₂ (fun a b => put a _ _ b) (harg16.read_unread _) (congr (congrArg k0_pay6 (rd_full _ _ _)) (rd_win _ _ _)))
  isplitl [H19]
  · iexists _; isplitr; swap; · iexact H19
    ipureintro
    exact (View.read_writes_full _ _ _ _ _).trans (congr (congrArg k0_pay4 (rd_full _ _ _)) (rd_full _ _ _))
  · iexists _; isplitr; swap; · iexact H21
    ipureintro
    exact harg21.read_unread _

end Cert.KernelIdeal.Val

end
-- ==== Proof.Value.RunC.lean ====
/- The contents the body leaves, case C. -/
module

public import proofs.«01_k».proof.Proof.Frame.KernelIdeal
public import proofs.«01_k».proof.Proof.Value.Reads

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

theorem off2_at : ∀ i : grid0.Coords, cond0_2 i → k0_off2 i = ![0, 512 * (i 0).val - 6144, 0] := by decide +kernel

theorem off3_at : ∀ i : grid0.Coords, cond0_2 i → k0_off3 i = ![1, 512 * (i 0).val - 6144, 0] := by decide +kernel

theorem off4_at : ∀ i : grid0.Coords, cond0_2 i → k0_off4 i = ![2, 512 * (i 0).val - 6144, 0] := by decide +kernel

theorem off5_at : ∀ i : grid0.Coords, cond0_2 i → k0_off5 i = ![3, 512 * (i 0).val - 6144, 0] := by decide +kernel

theorem off6_at : ∀ i : grid0.Coords, cond0_2 i → k0_off6 i = ![4, 512 * (i 0).val - 6144, 0] := by decide +kernel

theorem off7_at : ∀ i : grid0.Coords, cond0_2 i → k0_off7 i = ![5, 512 * (i 0).val - 6144, 0] := by decide +kernel

theorem off8_at : ∀ i : grid0.Coords, cond0_2 i → k0_off8 i = ![6, 512 * (i 0).val - 6144, 0] := by decide +kernel

theorem off9_at : ∀ i : grid0.Coords, cond0_2 i → k0_off9 i = ![7, 512 * (i 0).val - 6144, 0] := by decide +kernel

theorem off10_at : ∀ i : grid0.Coords, cond0_2 i → k0_off10 i = ![8, 512 * (i 0).val - 6144, 0] := by decide +kernel

theorem off11_at : ∀ i : grid0.Coords, cond0_2 i → k0_off11 i = ![9, 512 * (i 0).val - 6144, 0] := by decide +kernel

theorem off12_at : ∀ i : grid0.Coords, cond0_2 i → k0_off12 i = ![10, 512 * (i 0).val - 6144, 0] := by decide +kernel

theorem off13_at : ∀ i : grid0.Coords, cond0_2 i → k0_off13 i = ![11, 512 * (i 0).val - 6144, 0] := by decide +kernel

theorem off14_at : ∀ i : grid0.Coords, cond0_2 i → k0_off14 i = ![512 * (i 0).val - 6144, 0] := by decide +kernel

set_option maxHeartbeats 8000000 in
/-- The body at the row points but the last. -/
theorem runC (c : Dev nD) (i : grid0.Coords) (arg1 : Memref sig .tc .vmem S3x16 .f32) (harg1 : arg1.IsWhole) (arg2 : Memref sig .tc .vmem S512x3072 .bf16) (harg2 : arg2.IsWhole) (arg3 : Memref sig .tc .vmem S256x2048 .bf16) (harg3 : arg3.IsWhole) (arg4 : Memref sig .tc .vmem S512x2048 .bf16) (harg4 : arg4.IsWhole) (arg5 : Memref sig .tc .vmem S64x8x2048 .bf16) (harg5 : arg5.IsWhole) (arg6 : Memref sig .tc .vmem S64x8x3072 .bf16) (harg6 : arg6.IsWhole) (arg7 : Memref sig .tc .vmem S256x2048 .f32) (harg7 : arg7.IsWhole) (arg8 : Memref sig .tc .vmem S512x3072 .fp8e4m3) (harg8 : arg8.IsWhole) (arg9 : Memref sig .tc .vmem S1x1 .f32) (harg9 : arg9.IsWhole) (arg10 : Memref sig .tc .vmem S256x2048 .fp8e4m3) (harg10 : arg10.IsWhole) (arg11 : Memref sig .tc .vmem S1x1 .f32) (harg11 : arg11.IsWhole) (arg12 : Memref sig .tc .vmem S512x2048 .fp8e5m2) (harg12 : arg12.IsWhole) (arg13 : Memref sig .tc .vmem S1x1 .f32) (harg13 : arg13.IsWhole) (arg14 : Memref sig .tc .vmem S3x16 .f32) (harg14 : arg14.IsWhole) (arg15 : Memref sig .tc .vmem S12x3072x256 .fp8e4m3) (harg15 : arg15.IsWhole) (arg16 : Memref sig .tc .vmem S3072x2048 .fp8e4m3) (harg16 : arg16.IsWhole) (arg17 : Memref sig .tc .vmem S3072x2048 .fp8e5m2) (harg17 : arg17.IsWhole) (arg18 : Memref sig .tc .vmem S16x3072 .bf16) (harg18 : arg18.IsWhole) (arg19 : Memref sig .tc .vmem S16x2048 .bf16) (harg19 : arg19.IsWhole) (arg20 : Memref sig .tc .vmem S16x2048 .bf16) (harg20 : arg20.IsWhole) (arg21 : Memref sig .tc .vmem S8x128 .f32) (harg21 : arg21.IsWhole) (hc0 : ¬cond0_0 i) (hc1 : ¬cond0_1 i) (hc2 : cond0_2 i) (hc3 : ¬cond0_3 i) (hc4 : ¬cond0_4 i)
    (x2 : Vec F S512x3072 .bf16) (x4 : Vec F S512x2048 .bf16) (x15 : Vec F S12x3072x256 .fp8e4m3) (x16 : Vec F S3072x2048 .fp8e4m3) (x17 : Vec F S3072x2048 .fp8e5m2) (x18 : Vec F S16x3072 .bf16) (x20 : Vec F S16x2048 .bf16) (x21 : Vec F S8x128 .f32) (E : Set ℕ) (K : PUnit → sProp 𝕄) :
    iprop(owns (c : Thread nD τ) arg2 fullShare x2 ∗ owns (c : Thread nD τ) arg4 fullShare x4 ∗ (∃ d, owns (c : Thread nD τ) arg5 fullShare d) ∗ (∃ d, owns (c : Thread nD τ) arg6 fullShare d) ∗ (∃ d, owns (c : Thread nD τ) arg8 fullShare d) ∗ (∃ d, owns (c : Thread nD τ) arg12 fullShare d) ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg20 fullShare x20 ∗ owns (c : Thread nD τ) arg21 fullShare x21
      ∗ (iprop(owns (c : Thread nD τ) arg2 fullShare x2 ∗ owns (c : Thread nD τ) arg4 fullShare x4 ∗ owns (c : Thread nD τ) arg5 fullShare (k0_pay43 (k0_pay22 x2 (window x21 ![3, 0] S1x1.size inb_S8x128_S1x1_3_0)) x16 (window x21 ![0, 0] S1x1.size inb_S8x128_S1x1_0_0) (window x21 ![1, 0] S1x1.size inb_S8x128_S1x1_1_0)) ∗ owns (c : Thread nD τ) arg6 fullShare (k0_pay7 (k0_pay44 (k0_pay41 (k0_pay39 x4) (k0_pay40 (window x21 ![5, 0] S1x1.size inb_S8x128_S1x1_5_0))) x16) (window x21 ![2, 0] S1x1.size inb_S8x128_S1x1_2_0) (window x21 ![1, 0] S1x1.size inb_S8x128_S1x1_1_0)) ∗ owns (c : Thread nD τ) arg8 fullShare ((k0_pay22 x2 (window x21 ![3, 0] S1x1.size inb_S8x128_S1x1_3_0))) ∗ owns (c : Thread nD τ) arg12 fullShare ((k0_pay41 (k0_pay39 x4) (k0_pay40 (window x21 ![5, 0] S1x1.size inb_S8x128_S1x1_5_0)))) ∗ owns (c : Thread nD τ) arg15 fullShare ((put (put (put (put (put (put (put (put (put (put (put (put x15 ![0, 512 * (i 0).val - 6144, 0] S1x512x256.size (k0_pay23 x2 (window x21 ![3, 0] S1x1.size inb_S8x128_S1x1_3_0))) ![1, 512 * (i 0).val - 6144, 0] S1x512x256.size (k0_pay24 x2 (window x21 ![3, 0] S1x1.size inb_S8x128_S1x1_3_0))) ![2, 512 * (i 0).val - 6144, 0] S1x512x256.size (k0_pay26 (k0_pay25 x2 (window x21 ![3, 0] S1x1.size inb_S8x128_S1x1_3_0)))) ![3, 512 * (i 0).val - 6144, 0] S1x512x256.size (k0_pay27 (k0_pay22 x2 (window x21 ![3, 0] S1x1.size inb_S8x128_S1x1_3_0)))) ![4, 512 * (i 0).val - 6144, 0] S1x512x256.size (k0_pay28 (k0_pay22 x2 (window x21 ![3, 0] S1x1.size inb_S8x128_S1x1_3_0)))) ![5, 512 * (i 0).val - 6144, 0] S1x512x256.size (k0_pay29 (k0_pay22 x2 (window x21 ![3, 0] S1x1.size inb_S8x128_S1x1_3_0)))) ![6, 512 * (i 0).val - 6144, 0] S1x512x256.size (k0_pay30 (k0_pay22 x2 (window x21 ![3, 0] S1x1.size inb_S8x128_S1x1_3_0)))) ![7, 512 * (i 0).val - 6144, 0] S1x512x256.size (k0_pay31 (k0_pay22 x2 (window x21 ![3, 0] S1x1.size inb_S8x128_S1x1_3_0)))) ![8, 512 * (i 0).val - 6144, 0] S1x512x256.size (k0_pay33 (k0_pay32 (k0_pay22 x2 (window x21 ![3, 0] S1x1.size inb_S8x128_S1x1_3_0))))) ![9, 512 * (i 0).val - 6144, 0] S1x512x256.size (k0_pay34 (k0_pay22 x2 (window x21 ![3, 0] S1x1.size inb_S8x128_S1x1_3_0)))) ![10, 512 * (i 0).val - 6144, 0] S1x512x256.size (k0_pay35 (k0_pay22 x2 (window x21 ![3, 0] S1x1.size inb_S8x128_S1x1_3_0)))) ![11, 512 * (i 0).val - 6144, 0] S1x512x256.size (k0_pay36 (k0_pay22 x2 (window x21 ![3, 0] S1x1.size inb_S8x128_S1x1_3_0))))) ∗ owns (c : Thread nD τ) arg16 fullShare (x16) ∗ owns (c : Thread nD τ) arg17 fullShare (put x17 ![512 * (i 0).val - 6144, 0] S512x2048.size (k0_pay42 (k0_pay39 x4) (k0_pay40 (window x21 ![5, 0] S1x1.size inb_S8x128_S1x1_5_0)))) ∗ owns (c : Thread nD τ) arg18 fullShare (k0_pay21 x2 x18) ∗ owns (c : Thread nD τ) arg20 fullShare (k0_pay38 x4 x20) ∗ owns (c : Thread nD τ) arg21 fullShare (x21)) -∗ K ⟨⟩))
      ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__step_kernel_eq_skeleton]; unfold cc0__step_kernel_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f4, %hf4, H4⟩, ⟨%d5, %f5, -, H5⟩, ⟨%d6, %f6, -, H6⟩, ⟨%d8, %f8, -, H8⟩, ⟨%d12, %f12, -, H12⟩, ⟨%f15, %hf15, H15⟩, ⟨%f16, %hf16, H16⟩, ⟨%f17, %hf17, H17⟩, ⟨%f18, %hf18, H18⟩, ⟨%f20, %hf20, H20⟩, ⟨%f21, %hf21, H21⟩, Hk⟩
  obtain rfl := harg2.eq_unread hf2; obtain rfl := harg4.eq_unread hf4; obtain rfl := harg15.eq_unread hf15; obtain rfl := harg16.eq_unread hf16; obtain rfl := harg17.eq_unread hf17; obtain rfl := harg18.eq_unread hf18; obtain rfl := harg20.eq_unread hf20; obtain rfl := harg21.eq_unread hf21
  sl_exec (disch := first | sl_exact hc0 | sl_exact hc1 | sl_exact hc2 | sl_exact hc3 | sl_exact hc4)
  sl_step
  iapply Hk
  isplitl [H2]
  · iexists _; isplitr; swap; · iexact H2
    ipureintro
    exact harg2.read_unread _
  isplitl [H4]
  · iexists _; isplitr; swap; · iexact H4
    ipureintro
    exact harg4.read_unread _
  isplitl [H5]
  · iexists _; isplitr; swap; · iexact H5
    ipureintro
    exact (View.read_writes_full _ _ _ _ _).trans (congr (congr (congr (congrArg k0_pay43 ((View.readCov_full _ _ _ _ _).trans (congr (congrArg k0_pay22 (rd_full _ _ _)) (rd_win _ _ _)))) (rd_full _ _ _)) (rd_win _ _ _)) (rd_win _ _ _))
  isplitl [H6]
  · iexists _; isplitr; swap; · iexact H6
    ipureintro
    exact (View.read_writes_full _ _ _ _ _).trans (congr (congr (congrArg k0_pay7 (congr (congrArg k0_pay44 ((View.readCov_full _ _ _ _ _).trans (congr (congrArg k0_pay41 (congrArg k0_pay39 (rd_full _ _ _))) (congrArg k0_pay40 (rd_win _ _ _))))) (rd_full _ _ _))) (rd_win _ _ _)) (rd_win _ _ _))
  isplitl [H8]
  · iexists _; isplitr; swap; · iexact H8
    ipureintro
    exact (View.read_writes_full _ _ _ _ _).trans (congr (congrArg k0_pay22 (rd_full _ _ _)) (rd_win _ _ _))
  isplitl [H12]
  · iexists _; isplitr; swap; · iexact H12
    ipureintro
    exact (View.read_writes_full _ _ _ _ _).trans (congr (congrArg k0_pay41 (congrArg k0_pay39 (rd_full _ _ _))) (congrArg k0_pay40 (rd_win _ _ _)))
  isplitl [H15]
  · iexists _; isplitr; swap; · iexact H15
    ipureintro
    refine (View.read_writes_cons_put _ _ _ _ _ (off13_at i hc2)).trans (congrArg₂ (fun a b => put a _ _ b) ?_ (congrArg k0_pay36 (congr (congrArg k0_pay22 (rd_full _ _ _)) (rd_win _ _ _))))
    refine (View.read_writes_cons_put _ _ _ _ _ (off12_at i hc2)).trans (congrArg₂ (fun a b => put a _ _ b) ?_ (congrArg k0_pay35 (congr (congrArg k0_pay22 (rd_full _ _ _)) (rd_win _ _ _))))
    refine (View.read_writes_cons_put _ _ _ _ _ (off11_at i hc2)).trans (congrArg₂ (fun a b => put a _ _ b) ?_ (congrArg k0_pay34 (congr (congrArg k0_pay22 (rd_full _ _ _)) (rd_win _ _ _))))
    refine (View.read_writes_cons_put _ _ _ _ _ (off10_at i hc2)).trans (congrArg₂ (fun a b => put a _ _ b) ?_ (congrArg k0_pay33 (congrArg k0_pay32 (congr (congrArg k0_pay22 (rd_full _ _ _)) (rd_win _ _ _)))))
    refine (View.read_writes_cons_put _ _ _ _ _ (off9_at i hc2)).trans (congrArg₂ (fun a b => put a _ _ b) ?_ (congrArg k0_pay31 (congr (congrArg k0_pay22 (rd_full _ _ _)) (rd_win _ _ _))))
    refine (View.read_writes_cons_put _ _ _ _ _ (off8_at i hc2)).trans (congrArg₂ (fun a b => put a _ _ b) ?_ (congrArg k0_pay30 (congr (congrArg k0_pay22 (rd_full _ _ _)) (rd_win _ _ _))))
    refine (View.read_writes_cons_put _ _ _ _ _ (off7_at i hc2)).trans (congrArg₂ (fun a b => put a _ _ b) ?_ (congrArg k0_pay29 (congr (congrArg k0_pay22 (rd_full _ _ _)) (rd_win _ _ _))))
    refine (View.read_writes_cons_put _ _ _ _ _ (off6_at i hc2)).trans (congrArg₂ (fun a b => put a _ _ b) ?_ (congrArg k0_pay28 (congr (congrArg k0_pay22 (rd_full _ _ _)) (rd_win _ _ _))))
    refine (View.read_writes_cons_put _ _ _ _ _ (off5_at i hc2)).trans (congrArg₂ (fun a b => put a _ _ b) ?_ (congrArg k0_pay27 (congr (congrArg k0_pay22 (rd_full _ _ _)) (rd_win _ _ _))))
    refine (View.read_writes_cons_put _ _ _ _ _ (off4_at i hc2)).trans (congrArg₂ (fun a b => put a _ _ b) ?_ (congrArg k0_pay26 (congr (congrArg k0_pay25 (rd_full _ _ _)) (rd_win _ _ _))))
    refine (View.read_writes_cons_put _ _ _ _ _ (off3_at i hc2)).trans (congrArg₂ (fun a b => put a _ _ b) ?_ (congr (congrArg k0_pay24 (rd_full _ _ _)) (rd_win _ _ _)))
    refine (View.read_writes_cons_put _ _ _ _ _ (off2_at i hc2)).trans (congrArg₂ (fun a b => put a _ _ b) ?_ (congr (congrArg k0_pay23 (rd_full _ _ _)) (rd_win _ _ _)))
    exact harg15.read_unread _
  isplitl [H16]
  · iexists _; isplitr; swap; · iexact H16
    ipureintro
    exact harg16.read_unread _
  isplitl [H17]
  · iexists _; isplitr; swap; · iexact H17
    ipureintro
    exact (View.read_writes_cons_put _ _ _ _ _ (off14_at i hc2)).trans (congrArg₂ (fun a b => put a _ _ b) (harg17.read_unread _) (congr (congrArg k0_pay42 (congrArg k0_pay39 (rd_full _ _ _))) (congrArg k0_pay40 (rd_win _ _ _))))
  isplitl [H18]
  · iexists _; isplitr; swap; · iexact H18
    ipureintro
    exact (View.read_writes_full _ _ _ _ _).trans (congr (congrArg k0_pay21 (rd_full _ _ _)) (rd_full _ _ _))
  isplitl [H20]
  · iexists _; isplitr; swap; · iexact H20
    ipureintro
    exact (View.read_writes_full _ _ _ _ _).trans (congr (congrArg k0_pay38 (rd_full _ _ _)) (rd_full _ _ _))
  · iexists _; isplitr; swap; · iexact H21
    ipureintro
    exact harg21.read_unread _

end Cert.KernelIdeal.Val

end
-- ==== Proof.Value.RunD.lean ====
/- The contents the body leaves, case D. -/
module

public import proofs.«01_k».proof.Proof.Frame.KernelIdeal
public import proofs.«01_k».proof.Proof.Value.Reads
public import proofs.«01_k».proof.Proof.Value.RunC

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

set_option maxHeartbeats 8000000 in
/-- The body at the last row point. -/
theorem runD (c : Dev nD) (i : grid0.Coords) (arg1 : Memref sig .tc .vmem S3x16 .f32) (harg1 : arg1.IsWhole) (arg2 : Memref sig .tc .vmem S512x3072 .bf16) (harg2 : arg2.IsWhole) (arg3 : Memref sig .tc .vmem S256x2048 .bf16) (harg3 : arg3.IsWhole) (arg4 : Memref sig .tc .vmem S512x2048 .bf16) (harg4 : arg4.IsWhole) (arg5 : Memref sig .tc .vmem S64x8x2048 .bf16) (harg5 : arg5.IsWhole) (arg6 : Memref sig .tc .vmem S64x8x3072 .bf16) (harg6 : arg6.IsWhole) (arg7 : Memref sig .tc .vmem S256x2048 .f32) (harg7 : arg7.IsWhole) (arg8 : Memref sig .tc .vmem S512x3072 .fp8e4m3) (harg8 : arg8.IsWhole) (arg9 : Memref sig .tc .vmem S1x1 .f32) (harg9 : arg9.IsWhole) (arg10 : Memref sig .tc .vmem S256x2048 .fp8e4m3) (harg10 : arg10.IsWhole) (arg11 : Memref sig .tc .vmem S1x1 .f32) (harg11 : arg11.IsWhole) (arg12 : Memref sig .tc .vmem S512x2048 .fp8e5m2) (harg12 : arg12.IsWhole) (arg13 : Memref sig .tc .vmem S1x1 .f32) (harg13 : arg13.IsWhole) (arg14 : Memref sig .tc .vmem S3x16 .f32) (harg14 : arg14.IsWhole) (arg15 : Memref sig .tc .vmem S12x3072x256 .fp8e4m3) (harg15 : arg15.IsWhole) (arg16 : Memref sig .tc .vmem S3072x2048 .fp8e4m3) (harg16 : arg16.IsWhole) (arg17 : Memref sig .tc .vmem S3072x2048 .fp8e5m2) (harg17 : arg17.IsWhole) (arg18 : Memref sig .tc .vmem S16x3072 .bf16) (harg18 : arg18.IsWhole) (arg19 : Memref sig .tc .vmem S16x2048 .bf16) (harg19 : arg19.IsWhole) (arg20 : Memref sig .tc .vmem S16x2048 .bf16) (harg20 : arg20.IsWhole) (arg21 : Memref sig .tc .vmem S8x128 .f32) (harg21 : arg21.IsWhole) (hc0 : ¬cond0_0 i) (hc1 : ¬cond0_1 i) (hc2 : cond0_2 i) (hc3 : cond0_3 i) (hc4 : ¬cond0_4 i)
    (x1 : Vec F S3x16 .f32) (x2 : Vec F S512x3072 .bf16) (x4 : Vec F S512x2048 .bf16) (x15 : Vec F S12x3072x256 .fp8e4m3) (x16 : Vec F S3072x2048 .fp8e4m3) (x17 : Vec F S3072x2048 .fp8e5m2) (x18 : Vec F S16x3072 .bf16) (x19 : Vec F S16x2048 .bf16) (x20 : Vec F S16x2048 .bf16) (x21 : Vec F S8x128 .f32) (E : Set ℕ) (K : PUnit → sProp 𝕄) :
    iprop(owns (c : Thread nD τ) arg1 fullShare x1 ∗ owns (c : Thread nD τ) arg2 fullShare x2 ∗ owns (c : Thread nD τ) arg4 fullShare x4 ∗ (∃ d, owns (c : Thread nD τ) arg5 fullShare d) ∗ (∃ d, owns (c : Thread nD τ) arg6 fullShare d) ∗ (∃ d, owns (c : Thread nD τ) arg8 fullShare d) ∗ (∃ d, owns (c : Thread nD τ) arg12 fullShare d) ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21
      ∗ (iprop(owns (c : Thread nD τ) arg1 fullShare x1 ∗ owns (c : Thread nD τ) arg2 fullShare x2 ∗ owns (c : Thread nD τ) arg4 fullShare x4 ∗ owns (c : Thread nD τ) arg5 fullShare (k0_pay43 (k0_pay22 x2 (window x21 ![3, 0] S1x1.size inb_S8x128_S1x1_3_0)) x16 (window x21 ![0, 0] S1x1.size inb_S8x128_S1x1_0_0) (window x21 ![1, 0] S1x1.size inb_S8x128_S1x1_1_0)) ∗ owns (c : Thread nD τ) arg6 fullShare (k0_pay7 (k0_pay44 (k0_pay41 (k0_pay39 x4) (k0_pay40 (window x21 ![5, 0] S1x1.size inb_S8x128_S1x1_5_0))) x16) (window x21 ![2, 0] S1x1.size inb_S8x128_S1x1_2_0) (window x21 ![1, 0] S1x1.size inb_S8x128_S1x1_1_0)) ∗ owns (c : Thread nD τ) arg8 fullShare ((k0_pay22 x2 (window x21 ![3, 0] S1x1.size inb_S8x128_S1x1_3_0))) ∗ owns (c : Thread nD τ) arg12 fullShare ((k0_pay41 (k0_pay39 x4) (k0_pay40 (window x21 ![5, 0] S1x1.size inb_S8x128_S1x1_5_0)))) ∗ owns (c : Thread nD τ) arg14 fullShare (k0_pay8 x1 (k0_pay21 x2 x18) x19 (k0_pay38 x4 x20)) ∗ owns (c : Thread nD τ) arg15 fullShare ((put (put (put (put (put (put (put (put (put (put (put (put x15 ![0, 512 * (i 0).val - 6144, 0] S1x512x256.size (k0_pay23 x2 (window x21 ![3, 0] S1x1.size inb_S8x128_S1x1_3_0))) ![1, 512 * (i 0).val - 6144, 0] S1x512x256.size (k0_pay24 x2 (window x21 ![3, 0] S1x1.size inb_S8x128_S1x1_3_0))) ![2, 512 * (i 0).val - 6144, 0] S1x512x256.size (k0_pay26 (k0_pay25 x2 (window x21 ![3, 0] S1x1.size inb_S8x128_S1x1_3_0)))) ![3, 512 * (i 0).val - 6144, 0] S1x512x256.size (k0_pay27 (k0_pay22 x2 (window x21 ![3, 0] S1x1.size inb_S8x128_S1x1_3_0)))) ![4, 512 * (i 0).val - 6144, 0] S1x512x256.size (k0_pay28 (k0_pay22 x2 (window x21 ![3, 0] S1x1.size inb_S8x128_S1x1_3_0)))) ![5, 512 * (i 0).val - 6144, 0] S1x512x256.size (k0_pay29 (k0_pay22 x2 (window x21 ![3, 0] S1x1.size inb_S8x128_S1x1_3_0)))) ![6, 512 * (i 0).val - 6144, 0] S1x512x256.size (k0_pay30 (k0_pay22 x2 (window x21 ![3, 0] S1x1.size inb_S8x128_S1x1_3_0)))) ![7, 512 * (i 0).val - 6144, 0] S1x512x256.size (k0_pay31 (k0_pay22 x2 (window x21 ![3, 0] S1x1.size inb_S8x128_S1x1_3_0)))) ![8, 512 * (i 0).val - 6144, 0] S1x512x256.size (k0_pay33 (k0_pay32 (k0_pay22 x2 (window x21 ![3, 0] S1x1.size inb_S8x128_S1x1_3_0))))) ![9, 512 * (i 0).val - 6144, 0] S1x512x256.size (k0_pay34 (k0_pay22 x2 (window x21 ![3, 0] S1x1.size inb_S8x128_S1x1_3_0)))) ![10, 512 * (i 0).val - 6144, 0] S1x512x256.size (k0_pay35 (k0_pay22 x2 (window x21 ![3, 0] S1x1.size inb_S8x128_S1x1_3_0)))) ![11, 512 * (i 0).val - 6144, 0] S1x512x256.size (k0_pay36 (k0_pay22 x2 (window x21 ![3, 0] S1x1.size inb_S8x128_S1x1_3_0))))) ∗ owns (c : Thread nD τ) arg16 fullShare (x16) ∗ owns (c : Thread nD τ) arg17 fullShare (put x17 ![512 * (i 0).val - 6144, 0] S512x2048.size (k0_pay42 (k0_pay39 x4) (k0_pay40 (window x21 ![5, 0] S1x1.size inb_S8x128_S1x1_5_0)))) ∗ owns (c : Thread nD τ) arg18 fullShare (k0_pay21 x2 x18) ∗ owns (c : Thread nD τ) arg19 fullShare (x19) ∗ owns (c : Thread nD τ) arg20 fullShare (k0_pay38 x4 x20) ∗ owns (c : Thread nD τ) arg21 fullShare (x21)) -∗ K ⟨⟩))
      ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__step_kernel_eq_skeleton]; unfold cc0__step_kernel_skel
  simp only [k0_part1_eq_skeleton, k0_part2_eq_skeleton, k0_part3_eq_skeleton, k0_part4_eq_skeleton, k0_part5_eq_skeleton, k0_part6_eq_skeleton]
  unfold owns
  iintro ⟨⟨%f1, %hf1, H1⟩, ⟨%f2, %hf2, H2⟩, ⟨%f4, %hf4, H4⟩, ⟨%d5, %f5, -, H5⟩, ⟨%d6, %f6, -, H6⟩, ⟨%d8, %f8, -, H8⟩, ⟨%d12, %f12, -, H12⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg4.eq_unread hf4; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec (disch := first | sl_exact hc0 | sl_exact hc1 | sl_exact hc2 | sl_exact hc3 | sl_exact hc4)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H4]
  · iexists _; isplitr; swap; · iexact H4
    ipureintro
    exact harg4.read_unread _
  isplitl [H5]
  · iexists _; isplitr; swap; · iexact H5
    ipureintro
    exact (View.read_writes_full _ _ _ _ _).trans (congr (congr (congr (congrArg k0_pay43 ((View.readCov_full _ _ _ _ _).trans (congr (congrArg k0_pay22 (rd_full _ _ _)) (rd_win _ _ _)))) (rd_full _ _ _)) (rd_win _ _ _)) (rd_win _ _ _))
  isplitl [H6]
  · iexists _; isplitr; swap; · iexact H6
    ipureintro
    exact (View.read_writes_full _ _ _ _ _).trans (congr (congr (congrArg k0_pay7 (congr (congrArg k0_pay44 ((View.readCov_full _ _ _ _ _).trans (congr (congrArg k0_pay41 (congrArg k0_pay39 (rd_full _ _ _))) (congrArg k0_pay40 (rd_win _ _ _))))) (rd_full _ _ _))) (rd_win _ _ _)) (rd_win _ _ _))
  isplitl [H8]
  · iexists _; isplitr; swap; · iexact H8
    ipureintro
    exact (View.read_writes_full _ _ _ _ _).trans (congr (congrArg k0_pay22 (rd_full _ _ _)) (rd_win _ _ _))
  isplitl [H12]
  · iexists _; isplitr; swap; · iexact H12
    ipureintro
    exact (View.read_writes_full _ _ _ _ _).trans (congr (congrArg k0_pay41 (congrArg k0_pay39 (rd_full _ _ _))) (congrArg k0_pay40 (rd_win _ _ _)))
  isplitl [H14]
  · iexists _; isplitr; swap; · iexact H14
    ipureintro
    exact (View.read_writes_full _ _ _ _ _).trans (congr (congr (congr (congrArg k0_pay8 (rd_full _ _ _)) ((View.readCov_full _ _ _ _ _).trans (congr (congrArg k0_pay21 (rd_full _ _ _)) (rd_full _ _ _)))) (rd_full _ _ _)) ((View.readCov_full _ _ _ _ _).trans (congr (congrArg k0_pay38 (rd_full _ _ _)) (rd_full _ _ _))))
  isplitl [H15]
  · iexists _; isplitr; swap; · iexact H15
    ipureintro
    refine (View.read_writes_cons_put _ _ _ _ _ (off13_at i hc2)).trans (congrArg₂ (fun a b => put a _ _ b) ?_ (congrArg k0_pay36 (congr (congrArg k0_pay22 (rd_full _ _ _)) (rd_win _ _ _))))
    refine (View.read_writes_cons_put _ _ _ _ _ (off12_at i hc2)).trans (congrArg₂ (fun a b => put a _ _ b) ?_ (congrArg k0_pay35 (congr (congrArg k0_pay22 (rd_full _ _ _)) (rd_win _ _ _))))
    refine (View.read_writes_cons_put _ _ _ _ _ (off11_at i hc2)).trans (congrArg₂ (fun a b => put a _ _ b) ?_ (congrArg k0_pay34 (congr (congrArg k0_pay22 (rd_full _ _ _)) (rd_win _ _ _))))
    refine (View.read_writes_cons_put _ _ _ _ _ (off10_at i hc2)).trans (congrArg₂ (fun a b => put a _ _ b) ?_ (congrArg k0_pay33 (congrArg k0_pay32 (congr (congrArg k0_pay22 (rd_full _ _ _)) (rd_win _ _ _)))))
    refine (View.read_writes_cons_put _ _ _ _ _ (off9_at i hc2)).trans (congrArg₂ (fun a b => put a _ _ b) ?_ (congrArg k0_pay31 (congr (congrArg k0_pay22 (rd_full _ _ _)) (rd_win _ _ _))))
    refine (View.read_writes_cons_put _ _ _ _ _ (off8_at i hc2)).trans (congrArg₂ (fun a b => put a _ _ b) ?_ (congrArg k0_pay30 (congr (congrArg k0_pay22 (rd_full _ _ _)) (rd_win _ _ _))))
    refine (View.read_writes_cons_put _ _ _ _ _ (off7_at i hc2)).trans (congrArg₂ (fun a b => put a _ _ b) ?_ (congrArg k0_pay29 (congr (congrArg k0_pay22 (rd_full _ _ _)) (rd_win _ _ _))))
    refine (View.read_writes_cons_put _ _ _ _ _ (off6_at i hc2)).trans (congrArg₂ (fun a b => put a _ _ b) ?_ (congrArg k0_pay28 (congr (congrArg k0_pay22 (rd_full _ _ _)) (rd_win _ _ _))))
    refine (View.read_writes_cons_put _ _ _ _ _ (off5_at i hc2)).trans (congrArg₂ (fun a b => put a _ _ b) ?_ (congrArg k0_pay27 (congr (congrArg k0_pay22 (rd_full _ _ _)) (rd_win _ _ _))))
    refine (View.read_writes_cons_put _ _ _ _ _ (off4_at i hc2)).trans (congrArg₂ (fun a b => put a _ _ b) ?_ (congrArg k0_pay26 (congr (congrArg k0_pay25 (rd_full _ _ _)) (rd_win _ _ _))))
    refine (View.read_writes_cons_put _ _ _ _ _ (off3_at i hc2)).trans (congrArg₂ (fun a b => put a _ _ b) ?_ (congr (congrArg k0_pay24 (rd_full _ _ _)) (rd_win _ _ _)))
    refine (View.read_writes_cons_put _ _ _ _ _ (off2_at i hc2)).trans (congrArg₂ (fun a b => put a _ _ b) ?_ (congr (congrArg k0_pay23 (rd_full _ _ _)) (rd_win _ _ _)))
    exact harg15.read_unread _
  isplitl [H16]
  · iexists _; isplitr; swap; · iexact H16
    ipureintro
    exact harg16.read_unread _
  isplitl [H17]
  · iexists _; isplitr; swap; · iexact H17
    ipureintro
    exact (View.read_writes_cons_put _ _ _ _ _ (off14_at i hc2)).trans (congrArg₂ (fun a b => put a _ _ b) (harg17.read_unread _) (congr (congrArg k0_pay42 (congrArg k0_pay39 (rd_full _ _ _))) (congrArg k0_pay40 (rd_win _ _ _))))
  isplitl [H18]
  · iexists _; isplitr; swap; · iexact H18
    ipureintro
    exact (View.read_writes_full _ _ _ _ _).trans (congr (congrArg k0_pay21 (rd_full _ _ _)) (rd_full _ _ _))
  isplitl [H19]
  · iexists _; isplitr; swap; · iexact H19
    ipureintro
    exact harg19.read_unread _
  isplitl [H20]
  · iexists _; isplitr; swap; · iexact H20
    ipureintro
    exact (View.read_writes_full _ _ _ _ _).trans (congr (congrArg k0_pay38 (rd_full _ _ _)) (rd_full _ _ _))
  · iexists _; isplitr; swap; · iexact H21
    ipureintro
    exact harg21.read_unread _

end Cert.KernelIdeal.Val

end
-- ==== Proof.Value.RunE.lean ====
/- The contents the body leaves, case E. -/
module

public import proofs.«01_k».proof.Proof.Frame.KernelIdeal
public import proofs.«01_k».proof.Proof.Value.Reads

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow

variable {F : FTy → Type} [FloatOps F]

local notation "𝕄" => MT nD τ sig Unit (Elt F) ℕ (UR sig nD τ) ℕ

theorem off15_at : ∀ i : grid0.Coords, cond0_4 i → k0_off15 i = ![(i 0).val - 18, 0, 0] := by decide +kernel

theorem inbE (i : grid0.Coords) (h : cond0_4 i) : ∀ a, (![(i 0).val - 18, 0, 0] : Fin 3 → ℕ) a + S1x3072x256.size a ≤ S12x3072x256.size a := by
  have h1 := k0_off15_inb i h
  rw [off15_at i h] at h1; exact h1

set_option maxHeartbeats 8000000 in
/-- The body at the points of the weight gradient. -/
theorem runE (c : Dev nD) (i : grid0.Coords) (arg1 : Memref sig .tc .vmem S3x16 .f32) (harg1 : arg1.IsWhole) (arg2 : Memref sig .tc .vmem S512x3072 .bf16) (harg2 : arg2.IsWhole) (arg3 : Memref sig .tc .vmem S256x2048 .bf16) (harg3 : arg3.IsWhole) (arg4 : Memref sig .tc .vmem S512x2048 .bf16) (harg4 : arg4.IsWhole) (arg5 : Memref sig .tc .vmem S64x8x2048 .bf16) (harg5 : arg5.IsWhole) (arg6 : Memref sig .tc .vmem S64x8x3072 .bf16) (harg6 : arg6.IsWhole) (arg7 : Memref sig .tc .vmem S256x2048 .f32) (harg7 : arg7.IsWhole) (arg8 : Memref sig .tc .vmem S512x3072 .fp8e4m3) (harg8 : arg8.IsWhole) (arg9 : Memref sig .tc .vmem S1x1 .f32) (harg9 : arg9.IsWhole) (arg10 : Memref sig .tc .vmem S256x2048 .fp8e4m3) (harg10 : arg10.IsWhole) (arg11 : Memref sig .tc .vmem S1x1 .f32) (harg11 : arg11.IsWhole) (arg12 : Memref sig .tc .vmem S512x2048 .fp8e5m2) (harg12 : arg12.IsWhole) (arg13 : Memref sig .tc .vmem S1x1 .f32) (harg13 : arg13.IsWhole) (arg14 : Memref sig .tc .vmem S3x16 .f32) (harg14 : arg14.IsWhole) (arg15 : Memref sig .tc .vmem S12x3072x256 .fp8e4m3) (harg15 : arg15.IsWhole) (arg16 : Memref sig .tc .vmem S3072x2048 .fp8e4m3) (harg16 : arg16.IsWhole) (arg17 : Memref sig .tc .vmem S3072x2048 .fp8e5m2) (harg17 : arg17.IsWhole) (arg18 : Memref sig .tc .vmem S16x3072 .bf16) (harg18 : arg18.IsWhole) (arg19 : Memref sig .tc .vmem S16x2048 .bf16) (harg19 : arg19.IsWhole) (arg20 : Memref sig .tc .vmem S16x2048 .bf16) (harg20 : arg20.IsWhole) (arg21 : Memref sig .tc .vmem S8x128 .f32) (harg21 : arg21.IsWhole) (hc0 : ¬cond0_0 i) (hc1 : ¬cond0_1 i) (hc2 : ¬cond0_2 i) (hc3 : ¬cond0_3 i) (hc4 : cond0_4 i)
    (x15 : Vec F S12x3072x256 .fp8e4m3) (x17 : Vec F S3072x2048 .fp8e5m2) (x21 : Vec F S8x128 .f32) (E : Set ℕ) (K : PUnit → sProp 𝕄) :
    iprop((∃ d, owns (c : Thread nD τ) arg7 fullShare d) ∗ owns (c : Thread nD τ) arg15 fullShare x15 ∗ owns (c : Thread nD τ) arg17 fullShare x17 ∗ owns (c : Thread nD τ) arg21 fullShare x21
      ∗ (iprop(owns (c : Thread nD τ) arg7 fullShare (k0_pay9 (window x15 ![(i 0).val - 18, 0, 0] S1x3072x256.size (inbE i hc4)) x17 (window x21 ![0, 0] S1x1.size inb_S8x128_S1x1_0_0) (window x21 ![2, 0] S1x1.size inb_S8x128_S1x1_2_0)) ∗ owns (c : Thread nD τ) arg15 fullShare (x15) ∗ owns (c : Thread nD τ) arg17 fullShare (x17) ∗ owns (c : Thread nD τ) arg21 fullShare (x21)) -∗ K ⟨⟩))
      ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__step_kernel_eq_skeleton]; unfold cc0__step_kernel_skel
  simp only [k0_part1_eq_skeleton, k0_part2_eq_skeleton, k0_part3_eq_skeleton, k0_part4_eq_skeleton, k0_part5_eq_skeleton, k0_part6_eq_skeleton]
  unfold owns
  iintro ⟨⟨%d7, %f7, -, H7⟩, ⟨%f15, %hf15, H15⟩, ⟨%f17, %hf17, H17⟩, ⟨%f21, %hf21, H21⟩, Hk⟩
  obtain rfl := harg15.eq_unread hf15; obtain rfl := harg17.eq_unread hf17; obtain rfl := harg21.eq_unread hf21
  sl_exec (disch := first | sl_exact hc0 | sl_exact hc1 | sl_exact hc2 | sl_exact hc3 | sl_exact hc4)
  sl_step
  iapply Hk
  isplitl [H7]
  · iexists _; isplitr; swap; · iexact H7
    ipureintro
    exact (View.read_writes_full _ _ _ _ _).trans (congr (congr (congr (congrArg k0_pay9 (rd_win' _ _ _ (off15_at i hc4) _)) (rd_full _ _ _)) (rd_win _ _ _)) (rd_win _ _ _))
  isplitl [H15]
  · iexists _; isplitr; swap; · iexact H15
    ipureintro
    exact harg15.read_unread _
  isplitl [H17]
  · iexists _; isplitr; swap; · iexact H17
    ipureintro
    exact harg17.read_unread _
  · iexists _; isplitr; swap; · iexact H21
    ipureintro
    exact harg21.read_unread _

end Cert.KernelIdeal.Val

end
-- ==== Proof.Value.Points.lean ====
/- The body at every point of the grid: which case the point is in, what the case leaves in each output's buffer and in the
   scratch, and that an output the case does not write still holds what an earlier point left there. -/
module

public import proofs.«01_k».proof.Proof.Value.Step
public import proofs.«01_k».proof.Proof.Value.RunA
public import proofs.«01_k».proof.Proof.Value.RunB
public import proofs.«01_k».proof.Proof.Value.RunC
public import proofs.«01_k».proof.Proof.Value.RunD
public import proofs.«01_k».proof.Proof.Value.RunE

@[expose] public section

set_option maxRecDepth 16384

noncomputable section

namespace Cert.KernelIdeal.Val

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.VecWindow

local notation "𝕄" => MT nD τ sig Unit (Elt Ideal) ℕ (UR sig nD τ) ℕ

variable (m : (ℓ : Loc nD τ sig) → Buf (Elt Ideal) ℓ) (c : Dev nD)

/-! ### What each output's buffer holds after a point -/

def R4 (t : ℕ) (X : Vec Ideal S64x8x2048 .bf16) : Prop := 12 ≤ t → X = L4 m c t
def R5 (t : ℕ) (X : Vec Ideal S64x8x3072 .bf16) : Prop := 12 ≤ t → X = L5 m c t
def R6 (t : ℕ) (X : Vec Ideal S256x2048 .f32) : Prop := 18 ≤ t → X = L6 m c t
def R7 (t : ℕ) (X : Vec Ideal S512x3072 .fp8e4m3) : Prop := 12 ≤ t → X = L7 m c t
def R8 (t : ℕ) (X : Vec Ideal S1x1 .f32) : Prop := X = O8 m c
def R9 (t : ℕ) (X : Vec Ideal S256x2048 .fp8e4m3) : Prop := X = L9 m c t
def R10 (t : ℕ) (X : Vec Ideal S1x1 .f32) : Prop := X = O10 m c
def R11 (t : ℕ) (X : Vec Ideal S512x2048 .fp8e5m2) : Prop := 12 ≤ t → X = L11 m c t
def R12 (t : ℕ) (X : Vec Ideal S1x1 .f32) : Prop := X = O12 m c
def R13 (t : ℕ) (X : Vec Ideal S3x16 .f32) : Prop := 17 ≤ t → X = O13 m c

/-- The scratch before point `n` (any contents before the first), and the generator register. -/
def Phi (n : ℕ) : sProp 𝕄 :=
  iprop(∃ (x15 : Vec Ideal S12x3072x256 .fp8e4m3), ∃ (x16 : Vec Ideal S3072x2048 .fp8e4m3), ∃ (x17 : Vec Ideal S3072x2048 .fp8e5m2), ∃ (x18 : Vec Ideal S16x3072 .bf16), ∃ (x19 : Vec Ideal S16x2048 .bf16), ∃ (x20 : Vec Ideal S16x2048 .bf16), ∃ (x21 : Vec Ideal S8x128 .f32), ⌜n ≠ 0 → Inv m c n x15 x16 x17 x18 x19 x20 x21⌝
    ∗ owns (c : Thread nD τ) scM0_0 fullShare x15 ∗ owns (c : Thread nD τ) scM0_1 fullShare x16 ∗ owns (c : Thread nD τ) scM0_2 fullShare x17 ∗ owns (c : Thread nD τ) scM0_3 fullShare x18 ∗ owns (c : Thread nD τ) scM0_4 fullShare x19 ∗ owns (c : Thread nD τ) scM0_5 fullShare x20 ∗ owns (c : Thread nD τ) scM0_6 fullShare x21 ∗ ∃ r, prngReg c r)

theorem Phi_intro {n n' : ℕ} (hn : n = n') {x15 : Vec Ideal S12x3072x256 .fp8e4m3} {x16 : Vec Ideal S3072x2048 .fp8e4m3} {x17 : Vec Ideal S3072x2048 .fp8e5m2} {x18 : Vec Ideal S16x3072 .bf16} {x19 : Vec Ideal S16x2048 .bf16} {x20 : Vec Ideal S16x2048 .bf16} {x21 : Vec Ideal S8x128 .f32} (h : Inv m c n' x15 x16 x17 x18 x19 x20 x21) :
    iprop(owns (c : Thread nD τ) scM0_0 fullShare x15 ∗ owns (c : Thread nD τ) scM0_1 fullShare x16 ∗ owns (c : Thread nD τ) scM0_2 fullShare x17 ∗ owns (c : Thread nD τ) scM0_3 fullShare x18 ∗ owns (c : Thread nD τ) scM0_4 fullShare x19 ∗ owns (c : Thread nD τ) scM0_5 fullShare x20 ∗ owns (c : Thread nD τ) scM0_6 fullShare x21 ∗ ∃ r, prngReg c r) ⊢ (Phi m c n : sProp 𝕄) := by
  subst hn
  unfold Phi
  iintro H
  iexists x15; iexists x16; iexists x17; iexists x18; iexists x19; iexists x20; iexists x21
  isplitr
  · ipureintro; exact fun _ => h
  iexact H

/-- What a point is run from: the scratch, the inputs' blocks and the outputs' buffers, -/
def Pre (O : sProp 𝕄) (t : Fin cfg0.N) (x0 : Vec Ideal S3x16 .f32) (x1 : Vec Ideal S512x3072 .bf16) (x2 : Vec Ideal S256x2048 .bf16) (x3 : Vec Ideal S512x2048 .bf16) (y4 : Vec Ideal S64x8x2048 .bf16) (y5 : Vec Ideal S64x8x3072 .bf16) (y6 : Vec Ideal S256x2048 .f32) (y7 : Vec Ideal S512x3072 .fp8e4m3) (y8 : Vec Ideal S1x1 .f32) (y9 : Vec Ideal S256x2048 .fp8e4m3) (y10 : Vec Ideal S1x1 .f32) (y11 : Vec Ideal S512x2048 .fp8e5m2) (y12 : Vec Ideal S1x1 .f32) (y13 : Vec Ideal S3x16 .f32) : sProp 𝕄 :=
  iprop(Phi m c t.val ∗ O ∗ owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare y4 ∗ owns (c : Thread nD τ) (ms0_5 t) fullShare y5 ∗ owns (c : Thread nD τ) (ms0_6 t) fullShare y6 ∗ owns (c : Thread nD τ) (ms0_7 t) fullShare y7 ∗ owns (c : Thread nD τ) (ms0_8 t) fullShare y8 ∗ owns (c : Thread nD τ) (ms0_9 t) fullShare y9 ∗ owns (c : Thread nD τ) (ms0_10 t) fullShare y10 ∗ owns (c : Thread nD τ) (ms0_11 t) fullShare y11 ∗ owns (c : Thread nD τ) (ms0_12 t) fullShare y12 ∗ owns (c : Thread nD τ) (ms0_13 t) fullShare y13)

/-- and what it leaves. -/
def Post (O : sProp 𝕄) (t : Fin cfg0.N) (x0 : Vec Ideal S3x16 .f32) (x1 : Vec Ideal S512x3072 .bf16) (x2 : Vec Ideal S256x2048 .bf16) (x3 : Vec Ideal S512x2048 .bf16) : sProp 𝕄 :=
  iprop(Phi m c (t.val + 1) ∗ O ∗ owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ (∃ X, ⌜R4 m c t.val X⌝ ∗ owns (c : Thread nD τ) (ms0_4 t) fullShare X) ∗ (∃ X, ⌜R5 m c t.val X⌝ ∗ owns (c : Thread nD τ) (ms0_5 t) fullShare X) ∗ (∃ X, ⌜R6 m c t.val X⌝ ∗ owns (c : Thread nD τ) (ms0_6 t) fullShare X) ∗ (∃ X, ⌜R7 m c t.val X⌝ ∗ owns (c : Thread nD τ) (ms0_7 t) fullShare X) ∗ (∃ X, ⌜R8 m c t.val X⌝ ∗ owns (c : Thread nD τ) (ms0_8 t) fullShare X) ∗ (∃ X, ⌜R9 m c t.val X⌝ ∗ owns (c : Thread nD τ) (ms0_9 t) fullShare X) ∗ (∃ X, ⌜R10 m c t.val X⌝ ∗ owns (c : Thread nD τ) (ms0_10 t) fullShare X) ∗ (∃ X, ⌜R11 m c t.val X⌝ ∗ owns (c : Thread nD τ) (ms0_11 t) fullShare X) ∗ (∃ X, ⌜R12 m c t.val X⌝ ∗ owns (c : Thread nD τ) (ms0_12 t) fullShare X) ∗ (∃ X, ⌜R13 m c t.val X⌝ ∗ owns (c : Thread nD τ) (ms0_13 t) fullShare X))

theorem coord (t : Fin cfg0.N) : (grid0.coords t 0).val = t.val := by
  have e0 : (grid0.coords t 0).val = t.val / 1 % 30 := Pipeline.Grid.coords_val t 0 (by decide) rfl
  have := N30 t
  omega

set_option maxHeartbeats 4000000 in
theorem stepA (O : sProp 𝕄) (t : Fin cfg0.N) (ht : t.val = 0) (x0 : Vec Ideal S3x16 .f32) (x1 : Vec Ideal S512x3072 .bf16) (x2 : Vec Ideal S256x2048 .bf16) (x3 : Vec Ideal S512x2048 .bf16) (y4 : Vec Ideal S64x8x2048 .bf16) (y5 : Vec Ideal S64x8x3072 .bf16) (y6 : Vec Ideal S256x2048 .f32) (y7 : Vec Ideal S512x3072 .fp8e4m3) (y8 : Vec Ideal S1x1 .f32) (y9 : Vec Ideal S256x2048 .fp8e4m3) (y10 : Vec Ideal S1x1 .f32) (y11 : Vec Ideal S512x2048 .fp8e5m2) (y12 : Vec Ideal S1x1 .f32) (y13 : Vec Ideal S3x16 .f32)
    (h0 : x0 = H m c) (h1 : IsX (m := m) (c := c) t.val x1) (h2 : IsW (m := m) (c := c) t.val x2) (h3 : IsD (m := m) (c := c) t.val x3) :
    Pre m c O t x0 x1 x2 x3 y4 y5 y6 y7 y8 y9 y10 y11 y12 y13
      ⊢ wp frame (wpE (defs₀ (F := Ideal)) Variants.none c none) Set.univ (bodyAt0 t) (fun _ => Post m c O t x0 x1 x2 x3) := by
  subst h0
  have hN := N30 t
  have hc0 : cond0_0 (grid0.coords t) := by rw [hcond0_0]; omega
  have hc1 : cond0_1 (grid0.coords t) := by rw [hcond0_1]; omega
  have hc2 : ¬cond0_2 (grid0.coords t) := by rw [hcond0_2]; omega
  have hc3 : ¬cond0_3 (grid0.coords t) := by rw [hcond0_3]; omega
  have hc4 : ¬cond0_4 (grid0.coords t) := by rw [hcond0_4]; omega
  unfold Pre Phi bodyAt0
  iintro ⟨HP, HO, H0, H1, H2, H3, H4, H5, H6, H7, H8, H9, H10, H11, H12, H13⟩
  icases HP with ⟨%x15, %x16, %x17, %x18, %x19, %x20, %x21, %hI0, S15, S16, S17, S18, S19, S20, S21, Hg⟩
  have hS := scales_put (m := m) (c := c) x21
  have hv := fun i => (win_at _ 4 inb_S8x128_S1x1_4_0 i).trans hS.i1
  have hJ := invA (x15 := x15) (x16 := x16) (x17 := x17) (by rw [← ht]; exact h2) hS _ hv
  iapply (runA c (grid0.coords t) _ _ _ _ _ _ _ _ _ _ _ _ _ _ _ _ _ _ _ _ _ _ _ _ _ _ _ _ _ _ _ _ _ _ _ _ _ _ _ _ _ _ hc0 hc1 hc2 hc3 hc4 (H m c) x2 x16 x18 x19 x20 x21 Set.univ _)
  isplitl [H0]; · iexact H0
  isplitl [H2]; · iexact H2
  isplitl [H8]; · iexists _; iexact H8
  isplitl [H9]; · iexists _; iexact H9
  isplitl [H10]; · iexists _; iexact H10
  isplitl [H12]; · iexists _; iexact H12
  isplitl [S16]; · iexact S16
  isplitl [S18]; · iexact S18
  isplitl [S19]; · iexact S19
  isplitl [S20]; · iexact S20
  isplitl [S21]; · iexact S21
  iintro ⟨H0, H2, H8, H9, H10, H12, S16, S18, S19, S20, S21⟩
  unfold Post
  isplitl [S15 S16 S17 S18 S19 S20 S21 Hg]
  · iapply (Phi_intro m c (n := t.val + 1) (by omega) hJ)
    isplitl [S15]; · iexact S15
    isplitl [S16]; · iexact S16
    isplitl [S17]; · iexact S17
    isplitl [S18]; · iexact S18
    isplitl [S19]; · iexact S19
    isplitl [S20]; · iexact S20
    isplitl [S21]; · iexact S21
    iexact Hg
  isplitl [HO]; · iexact HO
  isplitl [H0]; · iexact H0
  isplitl [H1]; · iexact H1
  isplitl [H2]; · iexact H2
  isplitl [H3]; · iexact H3
  isplitl [H4]
  · iexists _; isplitr; swap; · iexact H4
    ipureintro; exact fun h => absurd h (by omega)
  isplitl [H5]
  · iexists _; isplitr; swap; · iexact H5
    ipureintro; exact fun h => absurd h (by omega)
  isplitl [H6]
  · iexists _; isplitr; swap; · iexact H6
    ipureintro; exact fun h => absurd h (by omega)
  isplitl [H7]
  · iexists _; isplitr; swap; · iexact H7
    ipureintro; exact fun h => absurd h (by omega)
  isplitl [H8]
  · iexists _; isplitr; swap; · iexact H8
    ipureintro; exact pay16_eq (H m c)
  isplitl [H9]
  · iexists _; isplitr; swap; · iexact H9
    ipureintro; exact outW h2 _ hv
  isplitl [H10]
  · iexists _; isplitr; swap; · iexact H10
    ipureintro; exact pay17_eq (H m c)
  isplitl [H11]
  · iexists _; isplitr; swap; · iexact H11
    ipureintro; exact fun h => absurd h (by omega)
  isplitl [H12]
  · iexists _; isplitr; swap; · iexact H12
    ipureintro; exact pay18_eq (H m c)
  iexists _; isplitr; swap; · iexact H13
  ipureintro; exact fun h => absurd h (by omega)

set_option maxHeartbeats 4000000 in
theorem stepB (O : sProp 𝕄) (t : Fin cfg0.N) (ht : 1 ≤ t.val ∧ t.val < 12) (x0 : Vec Ideal S3x16 .f32) (x1 : Vec Ideal S512x3072 .bf16) (x2 : Vec Ideal S256x2048 .bf16) (x3 : Vec Ideal S512x2048 .bf16) (y4 : Vec Ideal S64x8x2048 .bf16) (y5 : Vec Ideal S64x8x3072 .bf16) (y6 : Vec Ideal S256x2048 .f32) (y7 : Vec Ideal S512x3072 .fp8e4m3) (y8 : Vec Ideal S1x1 .f32) (y9 : Vec Ideal S256x2048 .fp8e4m3) (y10 : Vec Ideal S1x1 .f32) (y11 : Vec Ideal S512x2048 .fp8e5m2) (y12 : Vec Ideal S1x1 .f32) (y13 : Vec Ideal S3x16 .f32)
    (h0 : x0 = H m c) (h1 : IsX (m := m) (c := c) t.val x1) (h2 : IsW (m := m) (c := c) t.val x2) (h3 : IsD (m := m) (c := c) t.val x3) (k8 : R8 m c t.val y8) (k10 : R10 m c t.val y10) (k12 : R12 m c t.val y12) :
    Pre m c O t x0 x1 x2 x3 y4 y5 y6 y7 y8 y9 y10 y11 y12 y13
      ⊢ wp frame (wpE (defs₀ (F := Ideal)) Variants.none c none) Set.univ (bodyAt0 t) (fun _ => Post m c O t x0 x1 x2 x3) := by
  subst h0
  have hN := N30 t
  have hc0 : ¬cond0_0 (grid0.coords t) := by rw [hcond0_0]; omega
  have hc1 : cond0_1 (grid0.coords t) := by rw [hcond0_1]; omega
  have hc2 : ¬cond0_2 (grid0.coords t) := by rw [hcond0_2]; omega
  have hc3 : ¬cond0_3 (grid0.coords t) := by rw [hcond0_3]; omega
  have hc4 : ¬cond0_4 (grid0.coords t) := by rw [hcond0_4]; omega
  unfold Pre Phi bodyAt0
  iintro ⟨HP, HO, H0, H1, H2, H3, H4, H5, H6, H7, H8, H9, H10, H11, H12, H13⟩
  icases HP with ⟨%x15, %x16, %x17, %x18, %x19, %x20, %x21, %hI0, S15, S16, S17, S18, S19, S20, S21, Hg⟩
  have hI := hI0 (by omega)
  have hv : ∀ i, window (s := S8x128) x21 ![4, 0] S1x1.size inb_S8x128_S1x1_4_0 i = iv (H m c) 1 := fun i => (win_at x21 4 _ i).trans hI.sc.i1
  have hJ := invB ht.2 h2 hI _ hv (256 * (grid0.coords t 0).val) (by rw [coord])
  iapply (runB c (grid0.coords t) _ _ _ _ _ _ _ _ _ _ _ _ _ _ _ _ _ _ _ _ _ _ _ _ _ _ _ _ _ _ _ _ _ _ _ _ _ _ _ _ _ _ hc0 hc1 hc2 hc3 hc4 x2 x16 x19 x21 Set.univ _)
  isplitl [H2]; · iexact H2
  isplitl [H9]; · iexists _; iexact H9
  isplitl [S16]; · iexact S16
  isplitl [S19]; · iexact S19
  isplitl [S21]; · iexact S21
  iintro ⟨H2, H9, S16, S19, S21⟩
  unfold Post
  isplitl [S15 S16 S17 S18 S19 S20 S21 Hg]
  · iapply (Phi_intro m c (n := t.val + 1) (by omega) hJ)
    isplitl [S15]; · iexact S15
    isplitl [S16]; · iexact S16
    isplitl [S17]; · iexact S17
    isplitl [S18]; · iexact S18
    isplitl [S19]; · iexact S19
    isplitl [S20]; · iexact S20
    isplitl [S21]; · iexact S21
    iexact Hg
  isplitl [HO]; · iexact HO
  isplitl [H0]; · iexact H0
  isplitl [H1]; · iexact H1
  isplitl [H2]; · iexact H2
  isplitl [H3]; · iexact H3
  isplitl [H4]
  · iexists _; isplitr; swap; · iexact H4
    ipureintro; exact fun h => absurd h (by omega)
  isplitl [H5]
  · iexists _; isplitr; swap; · iexact H5
    ipureintro; exact fun h => absurd h (by omega)
  isplitl [H6]
  · iexists _; isplitr; swap; · iexact H6
    ipureintro; exact fun h => absurd h (by omega)
  isplitl [H7]
  · iexists _; isplitr; swap; · iexact H7
    ipureintro; exact fun h => absurd h (by omega)
  isplitl [H8]
  · iexists _; isplitr; swap; · iexact H8
    ipureintro; exact k8
  isplitl [H9]
  · iexists _; isplitr; swap; · iexact H9
    ipureintro; exact outW h2 _ hv
  isplitl [H10]
  · iexists _; isplitr; swap; · iexact H10
    ipureintro; exact k10
  isplitl [H11]
  · iexists _; isplitr; swap; · iexact H11
    ipureintro; exact fun h => absurd h (by omega)
  isplitl [H12]
  · iexists _; isplitr; swap; · iexact H12
    ipureintro; exact k12
  iexists _; isplitr; swap; · iexact H13
  ipureintro; exact fun h => absurd h (by omega)

set_option maxHeartbeats 4000000 in
theorem stepC (O : sProp 𝕄) (t : Fin cfg0.N) (ht : 12 ≤ t.val ∧ t.val < 17) (x0 : Vec Ideal S3x16 .f32) (x1 : Vec Ideal S512x3072 .bf16) (x2 : Vec Ideal S256x2048 .bf16) (x3 : Vec Ideal S512x2048 .bf16) (y4 : Vec Ideal S64x8x2048 .bf16) (y5 : Vec Ideal S64x8x3072 .bf16) (y6 : Vec Ideal S256x2048 .f32) (y7 : Vec Ideal S512x3072 .fp8e4m3) (y8 : Vec Ideal S1x1 .f32) (y9 : Vec Ideal S256x2048 .fp8e4m3) (y10 : Vec Ideal S1x1 .f32) (y11 : Vec Ideal S512x2048 .fp8e5m2) (y12 : Vec Ideal S1x1 .f32) (y13 : Vec Ideal S3x16 .f32)
    (h0 : x0 = H m c) (h1 : IsX (m := m) (c := c) t.val x1) (h2 : IsW (m := m) (c := c) t.val x2) (h3 : IsD (m := m) (c := c) t.val x3) (k8 : R8 m c t.val y8) (k9 : R9 m c t.val y9) (k10 : R10 m c t.val y10) (k12 : R12 m c t.val y12) :
    Pre m c O t x0 x1 x2 x3 y4 y5 y6 y7 y8 y9 y10 y11 y12 y13
      ⊢ wp frame (wpE (defs₀ (F := Ideal)) Variants.none c none) Set.univ (bodyAt0 t) (fun _ => Post m c O t x0 x1 x2 x3) := by
  subst h0
  have hN := N30 t
  have hc0 : ¬cond0_0 (grid0.coords t) := by rw [hcond0_0]; omega
  have hc1 : ¬cond0_1 (grid0.coords t) := by rw [hcond0_1]; omega
  have hc2 : cond0_2 (grid0.coords t) := by rw [hcond0_2]; omega
  have hc3 : ¬cond0_3 (grid0.coords t) := by rw [hcond0_3]; omega
  have hc4 : ¬cond0_4 (grid0.coords t) := by rw [hcond0_4]; omega
  unfold Pre Phi bodyAt0
  iintro ⟨HP, HO, H0, H1, H2, H3, H4, H5, H6, H7, H8, H9, H10, H11, H12, H13⟩
  icases HP with ⟨%x15, %x16, %x17, %x18, %x19, %x20, %x21, %hI0, S15, S16, S17, S18, S19, S20, S21, Hg⟩
  have hI := hI0 (by omega)
  have hs0 : ∀ i, window (s := S8x128) x21 ![0, 0] S1x1.size inb_S8x128_S1x1_0_0 i = Spec.sc (H m c) 0 := fun i => (win_at x21 0 _ i).trans hI.sc.s0
  have hs2 : ∀ i, window (s := S8x128) x21 ![2, 0] S1x1.size inb_S8x128_S1x1_2_0 i = Spec.sc (H m c) 2 := fun i => (win_at x21 2 _ i).trans hI.sc.s2
  have hs1 : ∀ i, window (s := S8x128) x21 ![1, 0] S1x1.size inb_S8x128_S1x1_1_0 i = Spec.sc (H m c) 1 := fun i => (win_at x21 1 _ i).trans hI.sc.s1
  have hv0 : ∀ i, window (s := S8x128) x21 ![3, 0] S1x1.size inb_S8x128_S1x1_3_0 i = iv (H m c) 0 := fun i => (win_at x21 3 _ i).trans hI.sc.i0
  have hv2 : ∀ i, window (s := S8x128) x21 ![5, 0] S1x1.size inb_S8x128_S1x1_5_0 i = iv (H m c) 2 := fun i => (win_at x21 5 _ i).trans hI.sc.i2
  have hJ := invC (by omega) (by omega) h1 h3 hI _ _ hv0 hv2 (512 * (grid0.coords t 0).val - 6144) (by rw [coord])
  iapply (runC c (grid0.coords t) _ _ _ _ _ _ _ _ _ _ _ _ _ _ _ _ _ _ _ _ _ _ _ _ _ _ _ _ _ _ _ _ _ _ _ _ _ _ _ _ _ _ hc0 hc1 hc2 hc3 hc4 x1 x3 x15 x16 x17 x18 x20 x21 Set.univ _)
  isplitl [H1]; · iexact H1
  isplitl [H3]; · iexact H3
  isplitl [H4]; · iexists _; iexact H4
  isplitl [H5]; · iexists _; iexact H5
  isplitl [H7]; · iexists _; iexact H7
  isplitl [H11]; · iexists _; iexact H11
  isplitl [S15]; · iexact S15
  isplitl [S16]; · iexact S16
  isplitl [S17]; · iexact S17
  isplitl [S18]; · iexact S18
  isplitl [S20]; · iexact S20
  isplitl [S21]; · iexact S21
  iintro ⟨H1, H3, H4, H5, H7, H11, S15, S16, S17, S18, S20, S21⟩
  unfold Post
  isplitl [S15 S16 S17 S18 S19 S20 S21 Hg]
  · iapply (Phi_intro m c (n := t.val + 1) (by omega) hJ)
    isplitl [S15]; · iexact S15
    isplitl [S16]; · iexact S16
    isplitl [S17]; · iexact S17
    isplitl [S18]; · iexact S18
    isplitl [S19]; · iexact S19
    isplitl [S20]; · iexact S20
    isplitl [S21]; · iexact S21
    iexact Hg
  isplitl [HO]; · iexact HO
  isplitl [H0]; · iexact H0
  isplitl [H1]; · iexact H1
  isplitl [H2]; · iexact H2
  isplitl [H3]; · iexact H3
  isplitl [H4]
  · iexists _; isplitr; swap; · iexact H4
    ipureintro; exact fun _ => outY hI (by omega) (outX h1 _ hv0) _ _ hs0 hs1
  isplitl [H5]
  · iexists _; isplitr; swap; · iexact H5
    ipureintro; exact fun _ => outDx hI (by omega) (outD h3 _ hv2) _ _ hs2 hs1
  isplitl [H6]
  · iexists _; isplitr; swap; · iexact H6
    ipureintro; exact fun h => absurd h (by omega)
  isplitl [H7]
  · iexists _; isplitr; swap; · iexact H7
    ipureintro; exact fun _ => outX h1 _ hv0
  isplitl [H8]
  · iexists _; isplitr; swap; · iexact H8
    ipureintro; exact k8
  isplitl [H9]
  · iexists _; isplitr; swap; · iexact H9
    ipureintro; exact k9
  isplitl [H10]
  · iexists _; isplitr; swap; · iexact H10
    ipureintro; exact k10
  isplitl [H11]
  · iexists _; isplitr; swap; · iexact H11
    ipureintro; exact fun _ => outD h3 _ hv2
  isplitl [H12]
  · iexists _; isplitr; swap; · iexact H12
    ipureintro; exact k12
  iexists _; isplitr; swap; · iexact H13
  ipureintro; exact fun h => absurd h (by omega)

set_option maxHeartbeats 4000000 in
theorem stepD (O : sProp 𝕄) (t : Fin cfg0.N) (ht : t.val = 17) (x0 : Vec Ideal S3x16 .f32) (x1 : Vec Ideal S512x3072 .bf16) (x2 : Vec Ideal S256x2048 .bf16) (x3 : Vec Ideal S512x2048 .bf16) (y4 : Vec Ideal S64x8x2048 .bf16) (y5 : Vec Ideal S64x8x3072 .bf16) (y6 : Vec Ideal S256x2048 .f32) (y7 : Vec Ideal S512x3072 .fp8e4m3) (y8 : Vec Ideal S1x1 .f32) (y9 : Vec Ideal S256x2048 .fp8e4m3) (y10 : Vec Ideal S1x1 .f32) (y11 : Vec Ideal S512x2048 .fp8e5m2) (y12 : Vec Ideal S1x1 .f32) (y13 : Vec Ideal S3x16 .f32)
    (h0 : x0 = H m c) (h1 : IsX (m := m) (c := c) t.val x1) (h2 : IsW (m := m) (c := c) t.val x2) (h3 : IsD (m := m) (c := c) t.val x3) (k8 : R8 m c t.val y8) (k9 : R9 m c t.val y9) (k10 : R10 m c t.val y10) (k12 : R12 m c t.val y12) :
    Pre m c O t x0 x1 x2 x3 y4 y5 y6 y7 y8 y9 y10 y11 y12 y13
      ⊢ wp frame (wpE (defs₀ (F := Ideal)) Variants.none c none) Set.univ (bodyAt0 t) (fun _ => Post m c O t x0 x1 x2 x3) := by
  subst h0
  have hN := N30 t
  have hc0 : ¬cond0_0 (grid0.coords t) := by rw [hcond0_0]; omega
  have hc1 : ¬cond0_1 (grid0.coords t) := by rw [hcond0_1]; omega
  have hc2 : cond0_2 (grid0.coords t) := by rw [hcond0_2]; omega
  have hc3 : cond0_3 (grid0.coords t) := by rw [hcond0_3]; omega
  have hc4 : ¬cond0_4 (grid0.coords t) := by rw [hcond0_4]; omega
  unfold Pre Phi bodyAt0
  iintro ⟨HP, HO, H0, H1, H2, H3, H4, H5, H6, H7, H8, H9, H10, H11, H12, H13⟩
  icases HP with ⟨%x15, %x16, %x17, %x18, %x19, %x20, %x21, %hI0, S15, S16, S17, S18, S19, S20, S21, Hg⟩
  have hI := hI0 (by omega)
  have hs0 : ∀ i, window (s := S8x128) x21 ![0, 0] S1x1.size inb_S8x128_S1x1_0_0 i = Spec.sc (H m c) 0 := fun i => (win_at x21 0 _ i).trans hI.sc.s0
  have hs2 : ∀ i, window (s := S8x128) x21 ![2, 0] S1x1.size inb_S8x128_S1x1_2_0 i = Spec.sc (H m c) 2 := fun i => (win_at x21 2 _ i).trans hI.sc.s2
  have hs1 : ∀ i, window (s := S8x128) x21 ![1, 0] S1x1.size inb_S8x128_S1x1_1_0 i = Spec.sc (H m c) 1 := fun i => (win_at x21 1 _ i).trans hI.sc.s1
  have hv0 : ∀ i, window (s := S8x128) x21 ![3, 0] S1x1.size inb_S8x128_S1x1_3_0 i = iv (H m c) 0 := fun i => (win_at x21 3 _ i).trans hI.sc.i0
  have hv2 : ∀ i, window (s := S8x128) x21 ![5, 0] S1x1.size inb_S8x128_S1x1_5_0 i = iv (H m c) 2 := fun i => (win_at x21 5 _ i).trans hI.sc.i2
  have hJ := invC (by omega) (by omega) h1 h3 hI _ _ hv0 hv2 (512 * (grid0.coords t 0).val - 6144) (by rw [coord])
  have hK := hJ
  rw [ht] at hK
  iapply (runD c (grid0.coords t) _ _ _ _ _ _ _ _ _ _ _ _ _ _ _ _ _ _ _ _ _ _ _ _ _ _ _ _ _ _ _ _ _ _ _ _ _ _ _ _ _ _ hc0 hc1 hc2 hc3 hc4 (H m c) x1 x3 x15 x16 x17 x18 x19 x20 x21 Set.univ _)
  isplitl [H0]; · iexact H0
  isplitl [H1]; · iexact H1
  isplitl [H3]; · iexact H3
  isplitl [H4]; · iexists _; iexact H4
  isplitl [H5]; · iexists _; iexact H5
  isplitl [H7]; · iexists _; iexact H7
  isplitl [H11]; · iexists _; iexact H11
  isplitl [H13]; · iexists _; iexact H13
  isplitl [S15]; · iexact S15
  isplitl [S16]; · iexact S16
  isplitl [S17]; · iexact S17
  isplitl [S18]; · iexact S18
  isplitl [S19]; · iexact S19
  isplitl [S20]; · iexact S20
  isplitl [S21]; · iexact S21
  iintro ⟨H0, H1, H3, H4, H5, H7, H11, H13, S15, S16, S17, S18, S19, S20, S21⟩
  unfold Post
  isplitl [S15 S16 S17 S18 S19 S20 S21 Hg]
  · iapply (Phi_intro m c (n := t.val + 1) (by omega) hJ)
    isplitl [S15]; · iexact S15
    isplitl [S16]; · iexact S16
    isplitl [S17]; · iexact S17
    isplitl [S18]; · iexact S18
    isplitl [S19]; · iexact S19
    isplitl [S20]; · iexact S20
    isplitl [S21]; · iexact S21
    iexact Hg
  isplitl [HO]; · iexact HO
  isplitl [H0]; · iexact H0
  isplitl [H1]; · iexact H1
  isplitl [H2]; · iexact H2
  isplitl [H3]; · iexact H3
  isplitl [H4]
  · iexists _; isplitr; swap; · iexact H4
    ipureintro; exact fun _ => outY hI (by omega) (outX h1 _ hv0) _ _ hs0 hs1
  isplitl [H5]
  · iexists _; isplitr; swap; · iexact H5
    ipureintro; exact fun _ => outDx hI (by omega) (outD h3 _ hv2) _ _ hs2 hs1
  isplitl [H6]
  · iexists _; isplitr; swap; · iexact H6
    ipureintro; exact fun h => absurd h (by omega)
  isplitl [H7]
  · iexists _; isplitr; swap; · iexact H7
    ipureintro; exact fun _ => outX h1 _ hv0
  isplitl [H8]
  · iexists _; isplitr; swap; · iexact H8
    ipureintro; exact k8
  isplitl [H9]
  · iexists _; isplitr; swap; · iexact H9
    ipureintro; exact k9
  isplitl [H10]
  · iexists _; isplitr; swap; · iexact H10
    ipureintro; exact k10
  isplitl [H11]
  · iexists _; isplitr; swap; · iexact H11
    ipureintro; exact fun _ => outD h3 _ hv2
  isplitl [H12]
  · iexists _; isplitr; swap; · iexact H12
    ipureintro; exact k12
  iexists _; isplitr; swap; · iexact H13
  ipureintro; exact fun _ => outH hK

set_option maxHeartbeats 4000000 in
theorem stepE (O : sProp 𝕄) (t : Fin cfg0.N) (ht : 18 ≤ t.val) (x0 : Vec Ideal S3x16 .f32) (x1 : Vec Ideal S512x3072 .bf16) (x2 : Vec Ideal S256x2048 .bf16) (x3 : Vec Ideal S512x2048 .bf16) (y4 : Vec Ideal S64x8x2048 .bf16) (y5 : Vec Ideal S64x8x3072 .bf16) (y6 : Vec Ideal S256x2048 .f32) (y7 : Vec Ideal S512x3072 .fp8e4m3) (y8 : Vec Ideal S1x1 .f32) (y9 : Vec Ideal S256x2048 .fp8e4m3) (y10 : Vec Ideal S1x1 .f32) (y11 : Vec Ideal S512x2048 .fp8e5m2) (y12 : Vec Ideal S1x1 .f32) (y13 : Vec Ideal S3x16 .f32)
    (h0 : x0 = H m c) (h1 : IsX (m := m) (c := c) t.val x1) (h2 : IsW (m := m) (c := c) t.val x2) (h3 : IsD (m := m) (c := c) t.val x3) (k4 : R4 m c t.val y4) (k5 : R5 m c t.val y5) (k7 : R7 m c t.val y7) (k8 : R8 m c t.val y8) (k9 : R9 m c t.val y9) (k10 : R10 m c t.val y10) (k11 : R11 m c t.val y11) (k12 : R12 m c t.val y12) (k13 : R13 m c t.val y13) :
    Pre m c O t x0 x1 x2 x3 y4 y5 y6 y7 y8 y9 y10 y11 y12 y13
      ⊢ wp frame (wpE (defs₀ (F := Ideal)) Variants.none c none) Set.univ (bodyAt0 t) (fun _ => Post m c O t x0 x1 x2 x3) := by
  subst h0
  have hN := N30 t
  have hc0 : ¬cond0_0 (grid0.coords t) := by rw [hcond0_0]; omega
  have hc1 : ¬cond0_1 (grid0.coords t) := by rw [hcond0_1]; omega
  have hc2 : ¬cond0_2 (grid0.coords t) := by rw [hcond0_2]; omega
  have hc3 : ¬cond0_3 (grid0.coords t) := by rw [hcond0_3]; omega
  have hc4 : cond0_4 (grid0.coords t) := by rw [hcond0_4]; omega
  unfold Pre Phi bodyAt0
  iintro ⟨HP, HO, H0, H1, H2, H3, H4, H5, H6, H7, H8, H9, H10, H11, H12, H13⟩
  icases HP with ⟨%x15, %x16, %x17, %x18, %x19, %x20, %x21, %hI0, S15, S16, S17, S18, S19, S20, S21, Hg⟩
  have hI := hI0 (by omega)
  have hs0 : ∀ i, window (s := S8x128) x21 ![0, 0] S1x1.size inb_S8x128_S1x1_0_0 i = Spec.sc (H m c) 0 := fun i => (win_at x21 0 _ i).trans hI.sc.s0
  have hs2 : ∀ i, window (s := S8x128) x21 ![2, 0] S1x1.size inb_S8x128_S1x1_2_0 i = Spec.sc (H m c) 2 := fun i => (win_at x21 2 _ i).trans hI.sc.s2
  have hJ := invE ht hI
  iapply (runE c (grid0.coords t) _ _ _ _ _ _ _ _ _ _ _ _ _ _ _ _ _ _ _ _ _ _ _ _ _ _ _ _ _ _ _ _ _ _ _ _ _ _ _ _ _ _ hc0 hc1 hc2 hc3 hc4  x15 x17 x21 Set.univ _)
  isplitl [H6]; · iexists _; iexact H6
  isplitl [S15]; · iexact S15
  isplitl [S17]; · iexact S17
  isplitl [S21]; · iexact S21
  iintro ⟨H6, S15, S17, S21⟩
  unfold Post
  isplitl [S15 S16 S17 S18 S19 S20 S21 Hg]
  · iapply (Phi_intro m c (n := t.val + 1) (by omega) hJ)
    isplitl [S15]; · iexact S15
    isplitl [S16]; · iexact S16
    isplitl [S17]; · iexact S17
    isplitl [S18]; · iexact S18
    isplitl [S19]; · iexact S19
    isplitl [S20]; · iexact S20
    isplitl [S21]; · iexact S21
    iexact Hg
  isplitl [HO]; · iexact HO
  isplitl [H0]; · iexact H0
  isplitl [H1]; · iexact H1
  isplitl [H2]; · iexact H2
  isplitl [H3]; · iexact H3
  isplitl [H4]
  · iexists _; isplitr; swap; · iexact H4
    ipureintro; exact k4
  isplitl [H5]
  · iexists _; isplitr; swap; · iexact H5
    ipureintro; exact k5
  isplitl [H6]
  · iexists _; isplitr; swap; · iexact H6
    ipureintro; exact fun _ => outDw hI (by omega) hN _ (by rw [coord]) _ _ _ hs0 hs2
  isplitl [H7]
  · iexists _; isplitr; swap; · iexact H7
    ipureintro; exact k7
  isplitl [H8]
  · iexists _; isplitr; swap; · iexact H8
    ipureintro; exact k8
  isplitl [H9]
  · iexists _; isplitr; swap; · iexact H9
    ipureintro; exact k9
  isplitl [H10]
  · iexists _; isplitr; swap; · iexact H10
    ipureintro; exact k10
  isplitl [H11]
  · iexists _; isplitr; swap; · iexact H11
    ipureintro; exact k11
  isplitl [H12]
  · iexists _; isplitr; swap; · iexact H12
    ipureintro; exact k12
  iexists _; isplitr; swap; · iexact H13
  ipureintro; exact k13

end Cert.KernelIdeal.Val

end
-- ==== Proof.Value.Obligation.lean ====
/- The body obligation with each output's buffer held to the block of the result it has to leave, and the launch: every output
   array ends at the function the blocks tile. -/
module

public import proofs.«01_k».proof.Proof.Value.Points
public import Idealize.ShloMosaic.Lib.Pipeline.DatRel
public import Idealize.ShloMosaic.Lib.Pipeline.ArrRel

@[expose] public section

set_option maxRecDepth 16384

noncomputable section

namespace Cert.KernelIdeal.Val

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg) (c : Dev nD)

/-- The proof data: the inputs' buffers at their blocks, the scratch followed from point to point. -/
def datV (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := Phi m c t.val
  q _ := fullShare
  owed _ := 0

/-- What each output's buffer is held to. -/
def Rl (w : Fin cfg0.W) (t : Fin cfg0.N) : ((cfg0.win w).block.Idx → Elt Ideal (cfg0.win w).elt) → Prop := match w with
  | ⟨0, _⟩ => fun _ => True
  | ⟨1, _⟩ => fun _ => True
  | ⟨2, _⟩ => fun _ => True
  | ⟨3, _⟩ => fun _ => True
  | ⟨4, _⟩ => fun X => R4 m c t.val X
  | ⟨5, _⟩ => fun X => R5 m c t.val X
  | ⟨6, _⟩ => fun X => R6 m c t.val X
  | ⟨7, _⟩ => fun X => R7 m c t.val X
  | ⟨8, _⟩ => fun X => R8 m c t.val X
  | ⟨9, _⟩ => fun X => R9 m c t.val X
  | ⟨10, _⟩ => fun X => R10 m c t.val X
  | ⟨11, _⟩ => fun X => R11 m c t.val X
  | ⟨12, _⟩ => fun X => R12 m c t.val X
  | ⟨13, _⟩ => fun X => R13 m c t.val X

def rdatV (c : Dev nD) : RDat τ (Elt Ideal) Unit ℕ (UR sig nD τ) ℕ cfg0 c := (datV m c).toRRel forgets0 (Rl m c)

theorem A_eqV (w : Fin cfg0.W) : (datV m c).A w = V m c (Pipeline.arrRef spec0 w) := by
  dsimp only [datV]

theorem afterV_0 (t : Fin cfg0.N) : (datV m c).after 0 t = iblk m c 0 t := by dsimp only [datV]
theorem afterV_1 (t : Fin cfg0.N) : (datV m c).after 1 t = iblk m c 1 t := by dsimp only [datV]
theorem afterV_2 (t : Fin cfg0.N) : (datV m c).after 2 t = iblk m c 2 t := by dsimp only [datV]
theorem afterV_3 (t : Fin cfg0.N) : (datV m c).after 3 t = iblk m c 3 t := by dsimp only [datV]
theorem beforeV_0 (t : Fin cfg0.N) (d) : (datV m c).before 0 t d = iblk m c 0 t := before0_0_of m (datV m c) (A_eqV m c 0) (afterV_0 m c) t d
theorem beforeV_1 (t : Fin cfg0.N) (d) : (datV m c).before 1 t d = iblk m c 1 t := before0_1_of m (datV m c) (A_eqV m c 1) (afterV_1 m c) t d
theorem beforeV_2 (t : Fin cfg0.N) (d) : (datV m c).before 2 t d = iblk m c 2 t := before0_2_of m (datV m c) (A_eqV m c 2) (afterV_2 m c) t d
theorem beforeV_3 (t : Fin cfg0.N) (d) : (datV m c).before 3 t d = iblk m c 3 t := before0_3_of m (datV m c) (A_eqV m c 3) (afterV_3 m c) t d

/-- What a point finds in an output's buffer that the point before did not write back is what that point left there. -/
theorem keep {w : Fin cfg0.W} (hw : forgets0 w = true) (ho : (cfg0.win w).isOut = true) {t : Fin cfg0.N} (ht : t.val ≠ 0)
    (hfl : (cfg0.win w).flush ⟨t.val - 1, Nat.lt_of_le_of_lt (Nat.sub_le _ _) t.isLt⟩ = false)
    {Y : (cfg0.win w).block.Idx → Elt Ideal (cfg0.win w).elt} (h : (rdatV m c).Finds w t Y) :
    Rl m c w ⟨t.val - 1, Nat.lt_of_le_of_lt (Nat.sub_le _ _) t.isLt⟩ Y := by
  rcases ((rdatV m c).finds_of_pos (Window.fetch_out _ ho t) ht Y).mp h with h | h
  · exact absurd (hfl.symm.trans h) Bool.false_ne_true
  · exact Dat.toRRel_leaves (datV m c) hw h

theorem r64_same {k k' : ℕ} (h : min k 5 = min k' 5) : r64 k = r64 k' := funext fun a => Fin.ext (by show 64 * min k 5 + a.val = 64 * min k' 5 + a.val; rw [h])
theorem r512_same {k k' : ℕ} (h : min k 5 = min k' 5) : r512 k = r512 k' := funext fun a => Fin.ext (by show 512 * min k 5 + a.val = 512 * min k' 5 + a.val; rw [h])
theorem r256_same {k k' : ℕ} (h : min k 11 = min k' 11) : r256 k = r256 k' := funext fun a => Fin.ext (by show 256 * min k 11 + a.val = 256 * min k' 11 + a.val; rw [h])

theorem L4_same {t t' : ℕ} (h : min (t - 12) 5 = min (t' - 12) 5) : L4 m c t = L4 m c t' := by unfold L4; rw [r64_same h]
theorem L5_same {t t' : ℕ} (h : min (t - 12) 5 = min (t' - 12) 5) : L5 m c t = L5 m c t' := by unfold L5; rw [r64_same h]
theorem L7_same {t t' : ℕ} (h : min (t - 12) 5 = min (t' - 12) 5) : L7 m c t = L7 m c t' := by unfold L7; rw [r512_same h]
theorem L11_same {t t' : ℕ} (h : min (t - 12) 5 = min (t' - 12) 5) : L11 m c t = L11 m c t' := by unfold L11; rw [r512_same h]
theorem L9_same {t t' : ℕ} (h : min (t) 11 = min (t') 11) : L9 m c t = L9 m c t' := by unfold L9; rw [r256_same h]

theorem keep4 {t : Fin cfg0.N} (ht : 18 ≤ t.val) {Y : Vec Ideal S64x8x2048 .bf16} (h : (rdatV m c).Finds 4 t Y) : R4 m c t.val Y := by
  have hN := N30 t
  have hk : R4 m c (t.val - 1) Y := keep m c (w := 4) rfl rfl (by omega) (by rw [flush_4]; exact decide_eq_false (by show ¬ _; dsimp only; omega)) h
  exact fun _ => (hk (by omega)).trans (L4_same m c (by omega))
theorem keep5 {t : Fin cfg0.N} (ht : 18 ≤ t.val) {Y : Vec Ideal S64x8x3072 .bf16} (h : (rdatV m c).Finds 5 t Y) : R5 m c t.val Y := by
  have hN := N30 t
  have hk : R5 m c (t.val - 1) Y := keep m c (w := 5) rfl rfl (by omega) (by rw [flush_5]; exact decide_eq_false (by show ¬ _; dsimp only; omega)) h
  exact fun _ => (hk (by omega)).trans (L5_same m c (by omega))
theorem keep7 {t : Fin cfg0.N} (ht : 18 ≤ t.val) {Y : Vec Ideal S512x3072 .fp8e4m3} (h : (rdatV m c).Finds 7 t Y) : R7 m c t.val Y := by
  have hN := N30 t
  have hk : R7 m c (t.val - 1) Y := keep m c (w := 7) rfl rfl (by omega) (by rw [flush_7]; exact decide_eq_false (by show ¬ _; dsimp only; omega)) h
  exact fun _ => (hk (by omega)).trans (L7_same m c (by omega))
theorem keep8 {t : Fin cfg0.N} (ht : 1 ≤ t.val) {Y : Vec Ideal S1x1 .f32} (h : (rdatV m c).Finds 8 t Y) : R8 m c t.val Y := by
  have hN := N30 t
  have hk : R8 m c (t.val - 1) Y := keep m c (w := 8) rfl rfl (by omega) (by rw [flush_8]; exact decide_eq_false (by show ¬ _; dsimp only; omega)) h
  exact hk
theorem keep9 {t : Fin cfg0.N} (ht : 12 ≤ t.val) {Y : Vec Ideal S256x2048 .fp8e4m3} (h : (rdatV m c).Finds 9 t Y) : R9 m c t.val Y := by
  have hN := N30 t
  have hk : R9 m c (t.val - 1) Y := keep m c (w := 9) rfl rfl (by omega) (by rw [flush_9]; exact decide_eq_false (by show ¬ _; dsimp only; omega)) h
  exact Eq.trans hk (L9_same m c (by omega))
theorem keep10 {t : Fin cfg0.N} (ht : 1 ≤ t.val) {Y : Vec Ideal S1x1 .f32} (h : (rdatV m c).Finds 10 t Y) : R10 m c t.val Y := by
  have hN := N30 t
  have hk : R10 m c (t.val - 1) Y := keep m c (w := 10) rfl rfl (by omega) (by rw [flush_10]; exact decide_eq_false (by show ¬ _; dsimp only; omega)) h
  exact hk
theorem keep11 {t : Fin cfg0.N} (ht : 18 ≤ t.val) {Y : Vec Ideal S512x2048 .fp8e5m2} (h : (rdatV m c).Finds 11 t Y) : R11 m c t.val Y := by
  have hN := N30 t
  have hk : R11 m c (t.val - 1) Y := keep m c (w := 11) rfl rfl (by omega) (by rw [flush_11]; exact decide_eq_false (by show ¬ _; dsimp only; omega)) h
  exact fun _ => (hk (by omega)).trans (L11_same m c (by omega))
theorem keep12 {t : Fin cfg0.N} (ht : 1 ≤ t.val) {Y : Vec Ideal S1x1 .f32} (h : (rdatV m c).Finds 12 t Y) : R12 m c t.val Y := by
  have hN := N30 t
  have hk : R12 m c (t.val - 1) Y := keep m c (w := 12) rfl rfl (by omega) (by rw [flush_12]; exact decide_eq_false (by show ¬ _; dsimp only; omega)) h
  exact hk
theorem keep13 {t : Fin cfg0.N} (ht : 18 ≤ t.val) {Y : Vec Ideal S3x16 .f32} (h : (rdatV m c).Finds 13 t Y) : R13 m c t.val Y := by
  have hN := N30 t
  have hk : R13 m c (t.val - 1) Y := keep m c (w := 13) rfl rfl (by omega) (by rw [flush_13]; exact decide_eq_false (by show ¬ _; dsimp only; omega)) h
  exact fun _ => hk (by omega)

def bodyPreV (t : Fin cfg0.N) : sProp 𝕄 :=
  iprop((datV m c).Φ t.castSucc ∗ (datV m c).owesAt () t.castSucc
    ∗ (∃ d, owns (c : Thread nD τ) (ms0_0 t) fullShare ((datV m c).before 0 t d))
    ∗ (∃ d, owns (c : Thread nD τ) (ms0_1 t) fullShare ((datV m c).before 1 t d))
    ∗ (∃ d, owns (c : Thread nD τ) (ms0_2 t) fullShare ((datV m c).before 2 t d))
    ∗ (∃ d, owns (c : Thread nD τ) (ms0_3 t) fullShare ((datV m c).before 3 t d))
    ∗ (∃ Y, ⌜(rdatV m c).Finds 4 t Y⌝ ∗ owns (c : Thread nD τ) (ms0_4 t) fullShare Y)
    ∗ (∃ Y, ⌜(rdatV m c).Finds 5 t Y⌝ ∗ owns (c : Thread nD τ) (ms0_5 t) fullShare Y)
    ∗ (∃ Y, ⌜(rdatV m c).Finds 6 t Y⌝ ∗ owns (c : Thread nD τ) (ms0_6 t) fullShare Y)
    ∗ (∃ Y, ⌜(rdatV m c).Finds 7 t Y⌝ ∗ owns (c : Thread nD τ) (ms0_7 t) fullShare Y)
    ∗ (∃ Y, ⌜(rdatV m c).Finds 8 t Y⌝ ∗ owns (c : Thread nD τ) (ms0_8 t) fullShare Y)
    ∗ (∃ Y, ⌜(rdatV m c).Finds 9 t Y⌝ ∗ owns (c : Thread nD τ) (ms0_9 t) fullShare Y)
    ∗ (∃ Y, ⌜(rdatV m c).Finds 10 t Y⌝ ∗ owns (c : Thread nD τ) (ms0_10 t) fullShare Y)
    ∗ (∃ Y, ⌜(rdatV m c).Finds 11 t Y⌝ ∗ owns (c : Thread nD τ) (ms0_11 t) fullShare Y)
    ∗ (∃ Y, ⌜(rdatV m c).Finds 12 t Y⌝ ∗ owns (c : Thread nD τ) (ms0_12 t) fullShare Y)
    ∗ (∃ Y, ⌜(rdatV m c).Finds 13 t Y⌝ ∗ owns (c : Thread nD τ) (ms0_13 t) fullShare Y))

theorem sound_bodyV (t : Fin cfg0.N) :
    bodyPreV m c t ⊢ wp frame (wpE (defs₀ (F := Ideal)) Variants.none c none) Set.univ (bodyAt0 t)
      (fun _ => Post m c ((datV m c).owesAt () t.castSucc) t (iblk m c 0 t) (iblk m c 1 t) (iblk m c 2 t) (iblk m c 3 t)) := by
  have hN := N30 t
  have h0 := iblk_0 m c t
  have h1 : IsX (m := m) (c := c) t.val (iblk m c 1 t) := iblk_1 m c t
  have h2 : IsW (m := m) (c := c) t.val (iblk m c 2 t) := iblk_2 m c t
  have h3 : IsD (m := m) (c := c) t.val (iblk m c 3 t) := iblk_3 m c t
  unfold bodyPreV
  simp only [beforeV_0, beforeV_1, beforeV_2, beforeV_3]
  rw [show (datV m c).Φ t.castSucc = Phi m c t.val from rfl]
  iintro ⟨HP, HO, ⟨%d0, H0⟩, ⟨%d1, H1⟩, ⟨%d2, H2⟩, ⟨%d3, H3⟩, ⟨%y4, %f4, H4⟩, ⟨%y5, %f5, H5⟩, ⟨%y6, %f6, H6⟩, ⟨%y7, %f7, H7⟩, ⟨%y8, %f8, H8⟩, ⟨%y9, %f9, H9⟩, ⟨%y10, %f10, H10⟩, ⟨%y11, %f11, H11⟩, ⟨%y12, %f12, H12⟩, ⟨%y13, %f13, H13⟩⟩
  have hall : Pre m c ((datV m c).owesAt () t.castSucc) t (iblk m c 0 t) (iblk m c 1 t) (iblk m c 2 t) (iblk m c 3 t) y4 y5 y6 y7 y8 y9 y10 y11 y12 y13
      ⊢ wp frame (wpE (defs₀ (F := Ideal)) Variants.none c none) Set.univ (bodyAt0 t)
        (fun _ => Post m c ((datV m c).owesAt () t.castSucc) t (iblk m c 0 t) (iblk m c 1 t) (iblk m c 2 t) (iblk m c 3 t)) := by
    by_cases hA : t.val = 0
    · exact stepA m c _ t hA _ _ _ _ _ _ _ _ _ _ _ _ _ _ h0 h1 h2 h3
    by_cases hB : t.val < 12
    · exact stepB m c _ t ⟨by omega, hB⟩ _ _ _ _ _ _ _ _ _ _ _ _ _ _ h0 h1 h2 h3 (keep8 m c (by omega) f8) (keep10 m c (by omega) f10) (keep12 m c (by omega) f12)
    by_cases hC : t.val < 17
    · exact stepC m c _ t ⟨by omega, hC⟩ _ _ _ _ _ _ _ _ _ _ _ _ _ _ h0 h1 h2 h3 (keep8 m c (by omega) f8) (keep9 m c (by omega) f9) (keep10 m c (by omega) f10) (keep12 m c (by omega) f12)
    by_cases hD : t.val = 17
    · exact stepD m c _ t hD _ _ _ _ _ _ _ _ _ _ _ _ _ _ h0 h1 h2 h3 (keep8 m c (by omega) f8) (keep9 m c (by omega) f9) (keep10 m c (by omega) f10) (keep12 m c (by omega) f12)
    exact stepE m c _ t (by omega) _ _ _ _ _ _ _ _ _ _ _ _ _ _ h0 h1 h2 h3 (keep4 m c (by omega) f4) (keep5 m c (by omega) f5) (keep7 m c (by omega) f7) (keep8 m c (by omega) f8) (keep9 m c (by omega) f9) (keep10 m c (by omega) f10) (keep11 m c (by omega) f11) (keep12 m c (by omega) f12) (keep13 m c (by omega) f13)
  iapply hall
  unfold Pre
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligationV : BodyObligationRel (datV m c) (defs₀ (F := Ideal)) Variants.none () Set.univ forgets0 (Rl m c) := fun t => by
  rw [bigSep_W0, bigSep_W0, defs₀_row]
  exact triple_restated (sound_bodyV m c t) rfl .rfl fun _ => .rfl

theorem Phi_in : (Pipeline.ΦA spec0 c : sProp 𝕄) ⊢ Phi m c 0 := by
  rw [PhiA0_eq]
  unfold Phi
  iintro ⟨⟨⟨%x15, S15⟩, ⟨%x16, S16⟩, ⟨%x17, S17⟩, ⟨%x18, S18⟩, ⟨%x19, S19⟩, ⟨%x20, S20⟩, ⟨%x21, S21⟩⟩, Hg⟩
  iexists x15; iexists x16; iexists x17; iexists x18; iexists x19; iexists x20; iexists x21
  isplitr
  · ipureintro; exact fun h => absurd rfl h
  isplitl [S15]; · iexact S15
  isplitl [S16]; · iexact S16
  isplitl [S17]; · iexact S17
  isplitl [S18]; · iexact S18
  isplitl [S19]; · iexact S19
  isplitl [S20]; · iexact S20
  isplitl [S21]; · iexact S21
  iexact Hg

theorem Phi_out (n : ℕ) : Phi m c n ⊢ (Pipeline.ΦA spec0 c : sProp 𝕄) := by
  rw [PhiA0_eq]
  unfold Phi
  iintro ⟨%x15, %x16, %x17, %x18, %x19, %x20, %x21, %hI, S15, S16, S17, S18, S19, S20, S21, Hg⟩
  isplitl [S15 S16 S17 S18 S19 S20 S21]
  · isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    iexists _; iexact S21
  iexact Hg

set_option backward.isDefEq.respectTransparency.types false in
/-- The launch. -/
theorem run_mainV : θ_run defs (onTc (τ := τ) (main (F := Ideal))) (s₀ m ρ) (RDat.FramePost (cfgs 0) (fun c => rdatV m c) (V m)) :=
  RDat.θ_run_frame_track (Q' := _) cfgs (0 : Fin 1) launch0 defs₀ Variants.none (fun c => rdatV m c) m ρ main
    (hbody := fun c => (body_obligationV m c).toRRel) (hshare := fun c => (datV m c).share_full fun _ => rfl)
    (howed := fun _ _ => rfl) (V := V m) (hmain := hmain m Variants.none) (hA := A_eqV m)
    (hin := fun c => Phi_in m c) (hout := fun c => Phi_out m c _)

end Cert.KernelIdeal.Val

end
-- ==== Proof.Value.Result.lean ====
/- The kernel's results: every output array after the run, as one function of the arguments. -/
module

public import proofs.«01_k».proof.Proof.Value.Obligation

@[expose] public section

set_option maxRecDepth 16384

noncomputable section

namespace Cert.KernelIdeal.Val

open Cert.KernelIdeal.Gen Cert.Spec
open Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg) (c : Dev nD)

/-- What may be left in each output's buffer at the points that write it back. -/
def Left (after : (w : Fin cfg0.W) → Fin cfg0.N → (cfg0.win w).block.Idx → Elt Ideal (cfg0.win w).elt) : Prop :=
  ∀ (w : Fin cfg0.W) (t : Fin cfg0.N), (cfg0.win w).flush t = true → (rdatV m c).Leaves w t (after w t)

variable {after : (w : Fin cfg0.W) → Fin cfg0.N → (cfg0.win w).block.Idx → Elt Ideal (cfg0.win w).elt}

theorem arr4 (hL : Left m c after) : ((rdatV m c).withAfter after).arrAt 4 cfg0.N = O4 m c := by
  refine ((rdatV m c).withAfter after).arrAt_eq_of_emb 4 (O4 m c) (fun t hf y => ?_) ?_; swap
  · exact fun i => cover_4 i
  have hX : R4 m c t.val (after 4 t) := Dat.toRRel_leaves (datV m c) (w := 4) rfl (hL 4 t hf)
  rw [flush_4] at hf
  have hf := of_decide_eq_true hf
  exact (congrFun (hX (by omega)) y).trans (read_4 m c t y)

theorem arr5 (hL : Left m c after) : ((rdatV m c).withAfter after).arrAt 5 cfg0.N = O5 m c := by
  refine ((rdatV m c).withAfter after).arrAt_eq_of_emb 5 (O5 m c) (fun t hf y => ?_) ?_; swap
  · exact fun i => cover_5 i
  have hX : R5 m c t.val (after 5 t) := Dat.toRRel_leaves (datV m c) (w := 5) rfl (hL 5 t hf)
  rw [flush_5] at hf
  have hf := of_decide_eq_true hf
  exact (congrFun (hX (by omega)) y).trans (read_5 m c t y)

theorem arr6 (hL : Left m c after) : ((rdatV m c).withAfter after).arrAt 6 cfg0.N = O6 m c := by
  refine ((rdatV m c).withAfter after).arrAt_eq_of_emb 6 (O6 m c) (fun t hf y => ?_) ?_; swap
  · exact fun i => cover_6 i
  have hX : R6 m c t.val (after 6 t) := Dat.toRRel_leaves (datV m c) (w := 6) rfl (hL 6 t hf)
  rw [flush_6] at hf
  have hf := of_decide_eq_true hf
  exact (congrFun (hX (by omega)) y).trans (read_6 m c t y)

theorem arr7 (hL : Left m c after) : ((rdatV m c).withAfter after).arrAt 7 cfg0.N = O7 m c := by
  refine ((rdatV m c).withAfter after).arrAt_eq_of_emb 7 (O7 m c) (fun t hf y => ?_) ?_; swap
  · exact fun i => cover_7 i
  have hX : R7 m c t.val (after 7 t) := Dat.toRRel_leaves (datV m c) (w := 7) rfl (hL 7 t hf)
  rw [flush_7] at hf
  have hf := of_decide_eq_true hf
  exact (congrFun (hX (by omega)) y).trans (read_7 m c t y)

theorem arr8 (hL : Left m c after) : ((rdatV m c).withAfter after).arrAt 8 cfg0.N = O8 m c := by
  refine ((rdatV m c).withAfter after).arrAt_eq_of_emb 8 (O8 m c) (fun t hf y => ?_) ?_; swap
  · exact fun i => cover_8 i
  have hX : R8 m c t.val (after 8 t) := Dat.toRRel_leaves (datV m c) (w := 8) rfl (hL 8 t hf)
  exact (congrFun hX y).trans (read_8 m c t y)

theorem arr9 (hL : Left m c after) : ((rdatV m c).withAfter after).arrAt 9 cfg0.N = O9 m c := by
  refine ((rdatV m c).withAfter after).arrAt_eq_of_emb 9 (O9 m c) (fun t hf y => ?_) ?_; swap
  · exact fun i => cover_9 i
  have hX : R9 m c t.val (after 9 t) := Dat.toRRel_leaves (datV m c) (w := 9) rfl (hL 9 t hf)
  exact (congrFun hX y).trans (read_9 m c t y)

theorem arr10 (hL : Left m c after) : ((rdatV m c).withAfter after).arrAt 10 cfg0.N = O10 m c := by
  refine ((rdatV m c).withAfter after).arrAt_eq_of_emb 10 (O10 m c) (fun t hf y => ?_) ?_; swap
  · exact fun i => cover_10 i
  have hX : R10 m c t.val (after 10 t) := Dat.toRRel_leaves (datV m c) (w := 10) rfl (hL 10 t hf)
  exact (congrFun hX y).trans (read_10 m c t y)

theorem arr11 (hL : Left m c after) : ((rdatV m c).withAfter after).arrAt 11 cfg0.N = O11 m c := by
  refine ((rdatV m c).withAfter after).arrAt_eq_of_emb 11 (O11 m c) (fun t hf y => ?_) ?_; swap
  · exact fun i => cover_11 i
  have hX : R11 m c t.val (after 11 t) := Dat.toRRel_leaves (datV m c) (w := 11) rfl (hL 11 t hf)
  rw [flush_11] at hf
  have hf := of_decide_eq_true hf
  exact (congrFun (hX (by omega)) y).trans (read_11 m c t y)

theorem arr12 (hL : Left m c after) : ((rdatV m c).withAfter after).arrAt 12 cfg0.N = O12 m c := by
  refine ((rdatV m c).withAfter after).arrAt_eq_of_emb 12 (O12 m c) (fun t hf y => ?_) ?_; swap
  · exact fun i => cover_12 i
  have hX : R12 m c t.val (after 12 t) := Dat.toRRel_leaves (datV m c) (w := 12) rfl (hL 12 t hf)
  exact (congrFun hX y).trans (read_12 m c t y)

theorem arr13 (hL : Left m c after) : ((rdatV m c).withAfter after).arrAt 13 cfg0.N = O13 m c := by
  refine ((rdatV m c).withAfter after).arrAt_eq_of_emb 13 (O13 m c) (fun t hf y => ?_) ?_; swap
  · exact fun i => cover_13 i
  have hX : R13 m c t.val (after 13 t) := Dat.toRRel_leaves (datV m c) (w := 13) rfl (hL 13 t hf)
  rw [flush_13] at hf
  have hf := of_decide_eq_true hf
  exact (congrFun (hX (by omega)) y).trans (read_13 m c t y)

/-- The run: every result at its function of the arguments, and the arguments unchanged. -/
theorem run_values : θ_run defs (onTc (τ := τ) (main (F := Ideal))) ⟨m, fun _ => 0, ρ⟩ (fun r => ∀ c : Dev nD,
      r.2.mem ((c.tc : Thread nD τ).loc main_v2_0) = O4 m c
      ∧ r.2.mem ((c.tc : Thread nD τ).loc main_v2_1) = O5 m c
      ∧ r.2.mem ((c.tc : Thread nD τ).loc main_v2_2) = O6 m c
      ∧ r.2.mem ((c.tc : Thread nD τ).loc main_v2_3) = O7 m c
      ∧ r.2.mem ((c.tc : Thread nD τ).loc main_v2_4) = O8 m c
      ∧ r.2.mem ((c.tc : Thread nD τ).loc main_v2_5) = O9 m c
      ∧ r.2.mem ((c.tc : Thread nD τ).loc main_v2_6) = O10 m c
      ∧ r.2.mem ((c.tc : Thread nD τ).loc main_v2_7) = O11 m c
      ∧ r.2.mem ((c.tc : Thread nD τ).loc main_v2_8) = O12 m c
      ∧ r.2.mem ((c.tc : Thread nD τ).loc main_v2_9) = O13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
      obtain ⟨h1, h2⟩ := h
      obtain ⟨after, hL, hA⟩ := RDat.FramePost.exists_exact h1 c
      have hL : Left m c after := hL
      exact ⟨(hA 4).trans (arr4 m c hL),
        (hA 5).trans (arr5 m c hL),
        (hA 6).trans (arr6 m c hL),
        (hA 7).trans (arr7 m c hL),
        (hA 8).trans (arr8 m c hL),
        (hA 9).trans (arr9 m c hL),
        (hA 10).trans (arr10 m c hL),
        (hA 11).trans (arr11 m c hL),
        (hA 12).trans (arr12 m c hL),
        (hA 13).trans (arr13 m c hL),
        h2 c⟩)
    (θ_run_and (run_mainV m ρ) (frame_ofR m ρ (fun c => rdatV m c) (A_eqV m) (run_mainV m ρ)))

/-! ### The arrays the region reads, from the arguments -/

theorem H_eq : H m c = m ((c.tc : Thread nD τ).loc main_arg3) := V_main_arg3 m c
theorem W_eq : W m c = m ((c.tc : Thread nD τ).loc main_arg1) := V_main_arg1 m c

theorem X_eq : X m c = shapeCast S3072x3072 (m ((c.tc : Thread nD τ).loc main_arg0)) shapeCasts_S1x3072x3072_S3072x3072 := by
  show StableHlo.after hostOps0 (fun b => m (c, b)) (Proc.devRef .tc main_v0) = _
  after_results
  rfl

theorem D_eq : D m c = shapeCast S3072x2048 (m ((c.tc : Thread nD τ).loc main_arg2)) shapeCasts_S1x3072x2048_S3072x2048 := by
  show StableHlo.after hostOps0 (fun b => m (c, b)) (Proc.devRef .tc main_v1) = _
  after_results
  rfl

end Cert.KernelIdeal.Val

end
-- ==== Proof.Value.Ref.lean ====
/- The reference's results, index by index. -/
module

public import proofs.«01_k».proof.Proof.Value.Spec
public import proofs.«01_k».proof.Proof.Gen.ReferenceIdeal.Frame
public import Idealize.ShloMosaic.Lib.Pipeline.Value

@[expose] public section

open Idealize Idealize.ShloMosaic Idealize.ShloMosaic.ValueIdx
open Cert.Scale Cert.Spec Cert.ReferenceIdeal Cert.ReferenceIdeal.Gen

namespace Cert.RefValue

variable (H : Vec Ideal S3x16 .f32) (X : Vec Ideal S3072x3072 .bf16) (W D : Vec Ideal S3072x2048 .bf16)

theorem one_idx (i : S1x1.Idx) : i = ix2 0 0 := by
  refine Shape.idx_ext₂ ?_ ?_
  · have : (i 0).val < 1 := (i 0).isLt
    show (i 0).val = 0; omega
  · have : (i 1).val < 1 := (i 1).isLt
    show (i 1).val = 0; omega

theorem ld_H : View.ld (Val := Elt Ideal) H r0_0 = H := by
  funext i; exact congrArg H (Shape.idx_ext₂ (by show 0 + 1 * (i 0).val = _; omega) (by show 0 + 1 * (i 1).val = _; omega))
theorem ld_X : View.ld (Val := Elt Ideal) X r0_1 = X := by
  funext i; exact congrArg X (Shape.idx_ext₂ (by show 0 + 1 * (i 0).val = _; omega) (by show 0 + 1 * (i 1).val = _; omega))
theorem ld_W : View.ld (Val := Elt Ideal) W r0_2 = W := by
  funext i; exact congrArg W (Shape.idx_ext₂ (by show 0 + 1 * (i 0).val = _; omega) (by show 0 + 1 * (i 1).val = _; omega))

theorem pay4_at (k : Fin 3) (z : Fin 1) : k0_pay4 H (ix2 k z) = amax H k := by
  have hz : z = 0 := Subsingleton.elim _ _
  subst hz
  show shapeCast S3x1 (multiReduction (F := Ideal) (φ := .f32) .maximumf [1] S3 H 0xFF800000#32 reduces_S3x16_S3 (.inl rfl) rfl) shapeCasts_S3_S3x1 (ix2 k 0) = _
  rw [shapeCast_apply _ _ (ix2 k 0) (ix1 k) (by rw [Shape.rowMajor_val_one, Shape.rowMajor_val_two]; show k.val = k.val * 1 + 0; omega)]
  refine (Ideal.multiReduction_maximumf_single _ _ _ _ _ _).trans ?_
  unfold amax
  refine Finset.fold_congr fun l _ => ?_
  refine congrArg H (Shape.idx_ext₂ rfl rfl)

theorem slice_at {α : Type} (v : S3x1.Idx → α) (k : Fin 3) (h : Shape.Slices S3x1 ![k.val, 0] S1x1) (i : S1x1.Idx) :
    extractStridedSlice S1x1 ![k.val, 0] v h i = v (ix2 k 0) := by
  refine extractStridedSlice_apply _ _ _ i (ix2 k 0) fun a => ?_
  match a with
  | ⟨0, _⟩ => have : (i 0).val < 1 := (i 0).isLt
              show k.val = k.val + (i 0).val; omega
  | ⟨1, _⟩ => have : (i 1).val < 1 := (i 1).isLt
              show 0 = 0 + (i 1).val; omega

theorem scale0 (i : S1x1.Idx) : k0_pay6 H i = sc H 0 := by
  have h : extractStridedSlice S1x1 ![0, 0] (k0_pay4 H) slices_S3x1_o0_0_S1x1 i = amax H 0 :=
    (slice_at _ 0 _ i).trans (pay4_at H 0 0)
  show scale (mag (extractStridedSlice S1x1 ![0, 0] (k0_pay4 H) slices_S3x1_o0_0_S1x1 i) (lit 0x3B124925#32)) = _
  rw [h]; rfl

theorem inv0 (i : S1x1.Idx) : k0_pay9 (k0_pay7 H) (k0_pay8 H) (Scalar.ofBits (F := Ideal) .f32 0x00000000#32) i = iv H 0 := by
  have h : extractStridedSlice S1x1 ![0, 0] (k0_pay4 H) slices_S3x1_o0_0_S1x1 i = amax H 0 :=
    (slice_at _ 0 _ i).trans (pay4_at H 0 0)
  show inv (mag (extractStridedSlice S1x1 ![0, 0] (k0_pay4 H) slices_S3x1_o0_0_S1x1 i) (lit 0x3B124925#32)) = _
  rw [h]; rfl

theorem scale1 (i : S1x1.Idx) : k0_pay11 (k0_pay4 H) i = sc H 1 := by
  have h : extractStridedSlice S1x1 ![1, 0] (k0_pay4 H) slices_S3x1_o1_0_S1x1 i = amax H 1 :=
    (slice_at _ 1 _ i).trans (pay4_at H 1 0)
  show scale (mag (extractStridedSlice S1x1 ![1, 0] (k0_pay4 H) slices_S3x1_o1_0_S1x1 i) (lit 0x3B124925#32)) = _
  rw [h]; rfl

theorem inv1 (i : S1x1.Idx) : k0_pay12 (k0_pay4 H) i = iv H 1 := by
  have h : extractStridedSlice S1x1 ![1, 0] (k0_pay4 H) slices_S3x1_o1_0_S1x1 i = amax H 1 :=
    (slice_at _ 1 _ i).trans (pay4_at H 1 0)
  show inv (mag (extractStridedSlice S1x1 ![1, 0] (k0_pay4 H) slices_S3x1_o1_0_S1x1 i) (lit 0x3B124925#32)) = _
  rw [h]; rfl

theorem scale2 (i : S1x1.Idx) : k0_pay17 (k0_pay13 (k0_pay4 H)) (k0_pay14 (k0_pay4 H)) k0_pay15 i = sc H 2 := by
  have h : extractStridedSlice S1x1 ![2, 0] (k0_pay4 H) slices_S3x1_o2_0_S1x1 i = amax H 2 :=
    (slice_at _ 2 _ i).trans (pay4_at H 2 0)
  show scale (mag (extractStridedSlice S1x1 ![2, 0] (k0_pay4 H) slices_S3x1_o2_0_S1x1 i) (lit 0x37924925#32)) = _
  rw [h]; rfl

/-- The activations' codes. -/
theorem codesX : k0_pay36 H X W D = xq H X := by
  funext i
  unfold k0_pay36 k0_pay27
  rw [ld_H, ld_X]
  have h2 : k0_pay2 X = X := by
    unfold k0_pay2; exact shapeCast_self _ _
  rw [h2]
  show code (X i) (broadcastTo S3072x3072 (k0_pay9 (k0_pay7 H) (k0_pay8 H) (Scalar.ofBits (F := Ideal) .f32 0x00000000#32)) broadcasts_S1x1_S3072x3072 i) = _
  show code (X i) (k0_pay9 (k0_pay7 H) (k0_pay8 H) (Scalar.ofBits (F := Ideal) .f32 0x00000000#32) _) = _
  rw [inv0]; rfl

/-- The weights' codes. -/
theorem codesW : k0_pay37 H X W D = wq H W := by
  funext i
  unfold k0_pay37 k0_pay29
  rw [ld_H, ld_W]
  show code (W i) (k0_pay12 (k0_pay4 H) _) = _
  rw [inv1]; rfl

/-- The output gradients' codes. -/
theorem codesD : k0_pay22 (k0_pay38 H X W D) (k0_pay39 H X W D) = dq H D := by
  funext i
  unfold k0_pay38 k0_pay39 k0_pay34 k0_pay32 k0_pay33 k0_pay28 k0_pay29
  rw [ld_H, ld_W]
  have h2 : k0_pay3 D = D := by
    unfold k0_pay3; exact shapeCast_self _ _
  rw [h2]
  have h : ∀ i, extractStridedSlice S1x1 ![2, 0] (k0_pay4 H) slices_S3x1_o2_0_S1x1 i = amax H 2 :=
    fun i => (slice_at _ 2 _ i).trans (pay4_at H 2 0)
  show codeG (D i) (inv (mag (extractStridedSlice S1x1 ![2, 0] (k0_pay4 H) slices_S3x1_o2_0_S1x1 _) (lit 0x37924925#32))) = _
  rw [h]; rfl

/-- An index of the reference's y or dx, by its three coordinates, is one of the matrix it is a view of. -/
theorem row_lt (a : Fin 384) (b : Fin 8) : a.val * 8 + b.val < 3072 := by have := a.isLt; have := b.isLt; omega

theorem cast3 {α : Type} {n : ℕ} (v : (⟨2, ![3072, n]⟩ : Shape).Idx → α) (h : (⟨2, ![3072, n]⟩ : Shape).ShapeCasts ⟨3, ![384, 8, n]⟩)
    (a : Fin 384) (b : Fin 8) (c : Fin n) :
    shapeCast ⟨3, ![384, 8, n]⟩ v h (ix3 a b c) = v (ix2 ⟨a.val * 8 + b.val, row_lt a b⟩ c) :=
  shapeCast_apply _ _ (ix3 a b c) (ix2 ⟨a.val * 8 + b.val, row_lt a b⟩ c) (by
    rw [Shape.rowMajor_val_two, Shape.rowMajor_val_three]
    show (a.val * 8 + b.val) * n + c.val = (a.val * 8 + b.val) * n + c.val
    rfl)

/-- The forward product's sum. -/
theorem dotY (l : FVec Ideal S3072x3072 .fp8e4m3) (r : FVec Ideal S3072x2048 .fp8e4m3) (i : Fin 3072) (j : Fin 2048) :
    matmul dot_S3072x3072_S3072x2048_S3072x2048_1_0_0_1_n_n none l r (constant S3072x2048 .f32 0x00000000#32) (ix2 i j)
      = ∑ k : Fin 3072, l (ix2 i k) * r (ix2 k j) := by
  refine (Ideal.matmul_constant_zero_apply _ none l r (ix2 i j)).trans ?_
  rw [← Equiv.sum_comp (contrEquiv1 dot_S3072x3072_S3072x2048_S3072x2048_1_0_0_1_n_n 3072 rfl rfl).symm]
  refine Finset.sum_congr rfl fun k _ => ?_
  congr 1
  · exact congrArg l (Shape.idx_ext₂ rfl rfl)
  · exact congrArg r (Shape.idx_ext₂ rfl rfl)

/-- The sum of the activations' gradient. -/
theorem dotDx (l : FVec Ideal S3072x2048 .fp8e5m2) (r : FVec Ideal S3072x2048 .fp8e4m3) (i j : Fin 3072) :
    matmul dot_S3072x2048_S3072x2048_S3072x3072_1_1_0_0_n_n none l r (constant S3072x3072 .f32 0x00000000#32) (ix2 i j)
      = ∑ k : Fin 2048, l (ix2 i k) * r (ix2 j k) := by
  refine (Ideal.matmul_constant_zero_apply _ none l r (ix2 i j)).trans ?_
  rw [← Equiv.sum_comp (contrEquiv1 dot_S3072x2048_S3072x2048_S3072x3072_1_1_0_0_n_n 2048 rfl rfl).symm]
  refine Finset.sum_congr rfl fun k _ => ?_
  congr 1
  · exact congrArg l (Shape.idx_ext₂ rfl rfl)
  · exact congrArg r (Shape.idx_ext₂ rfl rfl)

/-- The sum of the weights' gradient. -/
theorem dotDw (l : FVec Ideal S3072x3072 .fp8e4m3) (r : FVec Ideal S3072x2048 .fp8e5m2) (i : Fin 3072) (j : Fin 2048) :
    matmul dot_S3072x3072_S3072x2048_S3072x2048_0_0_1_1_n_n none l r (constant S3072x2048 .f32 0x00000000#32) (ix2 i j)
      = ∑ k : Fin 3072, l (ix2 k i) * r (ix2 k j) := by
  refine (Ideal.matmul_constant_zero_apply _ none l r (ix2 i j)).trans ?_
  rw [← Equiv.sum_comp (contrEquiv1 dot_S3072x3072_S3072x2048_S3072x2048_0_0_1_1_n_n 3072 rfl rfl).symm]
  refine Finset.sum_congr rfl fun k _ => ?_
  congr 1
  · exact congrArg l (Shape.idx_ext₂ rfl rfl)
  · exact congrArg r (Shape.idx_ext₂ rfl rfl)

theorem out4 (a : Fin 384) (b : Fin 8) (c : Fin 2048) :
    out0_4 H X W D (ix3 a b c) = y H X W ⟨a.val * 8 + b.val, row_lt a b⟩ c := by
  unfold out0_4 k0_pay30 k0_pay31 k0_pay29
  rw [View.canon_unit_zero (by funext a; fin_cases a <;> rfl), codesX, codesW, ld_H]
  unfold k0_pay23
  refine (cast3 _ _ a b c).trans ?_
  show matmul dot_S3072x3072_S3072x2048_S3072x2048_1_0_0_1_n_n none (xq H X) (wq H W) (constant S3072x2048 .f32 0x00000000#32) _
    * (k0_pay6 H _ * k0_pay11 (k0_pay4 H) _) = _
  rw [scale0, scale1, dotY]; rfl

theorem out5 (a : Fin 384) (b : Fin 8) (c : Fin 3072) :
    out0_5 H X W D (ix3 a b c) = dx H W D ⟨a.val * 8 + b.val, row_lt a b⟩ c := by
  unfold out0_5
  rw [View.canon_unit_zero (by funext a; fin_cases a <;> rfl)]
  unfold k0_pay24
  rw [codesW, codesD]
  unfold k0_pay31 k0_pay35 k0_pay34 k0_pay33 k0_pay32 k0_pay29
  rw [ld_H]
  refine (cast3 _ _ a b c).trans ?_
  show matmul dot_S3072x2048_S3072x2048_S3072x3072_1_1_0_0_n_n none (dq H D) (wq H W) (constant S3072x3072 .f32 0x00000000#32) _
    * (k0_pay17 (k0_pay13 (k0_pay4 H)) (k0_pay14 (k0_pay4 H)) k0_pay15 _ * k0_pay11 (k0_pay4 H) _) = _
  rw [scale2, scale1, dotDx]; rfl

theorem out6 (a : Fin 3072) (c : Fin 2048) : out0_6 H X W D (ix2 a c) = dw H X D a c := by
  unfold out0_6
  rw [View.canon_unit_zero (by funext a; fin_cases a <;> rfl)]
  unfold k0_pay25
  rw [codesX, codesD]
  unfold k0_pay30 k0_pay35 k0_pay34 k0_pay33 k0_pay32 k0_pay29
  rw [ld_H]
  show matmul dot_S3072x3072_S3072x2048_S3072x2048_0_0_1_1_n_n none (xq H X) (dq H D) (constant S3072x2048 .f32 0x00000000#32) _
    * (k0_pay6 H _ * k0_pay17 (k0_pay13 (k0_pay4 H)) (k0_pay14 (k0_pay4 H)) k0_pay15 _) = _
  rw [scale2, scale0, dotDw]; rfl

theorem out7 : out0_7 H X W D = xq H X := by
  unfold out0_7
  rw [View.canon_unit_zero (by funext a; fin_cases a <;> rfl), codesX]

theorem out8 : out0_8 H X W D = fun _ => sc H 0 := by
  unfold out0_8 k0_pay30
  rw [View.canon_unit_zero (by funext a; fin_cases a <;> rfl), ld_H]
  exact funext (scale0 H)

theorem out9 : out0_9 H X W D = wq H W := by
  unfold out0_9
  rw [View.canon_unit_zero (by funext a; fin_cases a <;> rfl), codesW]

theorem out10 : out0_10 H X W D = fun _ => sc H 1 := by
  unfold out0_10 k0_pay31 k0_pay29
  rw [View.canon_unit_zero (by funext a; fin_cases a <;> rfl), ld_H]
  exact funext (scale1 H)

theorem out11 : out0_11 H X W D = dq H D := by
  unfold out0_11
  rw [View.canon_unit_zero (by funext a; fin_cases a <;> rfl), codesD]

theorem out12 : out0_12 H X W D = fun _ => sc H 2 := by
  unfold out0_12 k0_pay35 k0_pay34 k0_pay33 k0_pay32 k0_pay29
  rw [View.canon_unit_zero (by funext a; fin_cases a <;> rfl), ld_H]
  exact funext (scale2 H)

/-- The largest magnitude of a matrix, as the reference takes it. -/
theorem top_of {n m : ℕ} (v : FVec Ideal (⟨2, ![n, m]⟩ : Shape) .f32) (hc : (⟨2, ![n, m]⟩ : Shape).ShapeCasts ⟨3, ![1, n, m]⟩)
    (hr : (⟨3, ![1, n, m]⟩ : Shape).Reduces [1, 2] S1) (hφ : FKind.Formats .f32) (hacc : 0xFF800000#32 = FKind.maximumf.neutral .f32 hφ) (j : S1.Idx) :
    multiReduction .maximumf [1, 2] S1 (shapeCast (⟨3, ![1, n, m]⟩ : Shape) (absf v) hc) 0xFF800000#32 hr hφ hacc j = top v := by
  have h : ∀ b, multiReduction .maximumf [1, 2] S1 (shapeCast (⟨3, ![1, n, m]⟩ : Shape) (absf v) hc) 0xFF800000#32 hr hφ hacc j ≤ b ↔ top v ≤ b := fun b => by
    rw [red_all_le _ _ _ (by intro a; fin_cases a; rfl) _ _ lit_bot, top_le]
    exact cast_all (absf v) hc fun w => w ≤ b
  exact le_antisymm ((h _).mpr le_rfl) ((h _).mp le_rfl)

/-- The one entry of a reduction, taken out and put in a matrix of one entry. -/
theorem entry {α : Type} (v : S1.Idx → α) (h1 : S1.ShapeCasts S1x1x1) (h2 : ∀ a, (![0, 0, 0] : Fin 3 → ℕ) a < S1x1x1.size a) (i : S1x1.Idx) :
    broadcast S1x1 (extractAt ![0, 0, 0] (shapeCast S1x1x1 v h1) h2) i = v (ix1 0) := by
  show v _ = v _
  refine congrArg v (funext fun a => Fin.ext ?_)
  match a with
  | ⟨0, _⟩ => exact Nat.lt_one_iff.mp (Fin.isLt _)

theorem out13 (k : Fin 3) (l : Fin 16) : out0_13 H X W D (ix2 k l) = nh H X W D k l := by
  unfold out0_13 k0_pay28 k0_pay27
  rw [View.canon_unit_zero (by funext a; fin_cases a <;> rfl), ld_H, ld_X, ld_W, ld_W]
  have h2 : k0_pay2 X = X := by
    unfold k0_pay2; exact shapeCast_self _ _
  have h3 : k0_pay3 D = D := by
    unfold k0_pay3; exact shapeCast_self _ _
  rw [h2, h3]
  unfold k0_pay1 nh
  by_cases hl : l.val = 0
  · rw [if_pos hl]
    refine (concatenate_pair_apply_left (t := S3x16) (s₁ := S3x1) (s₂ := S3x15) _ _ _ _ _ rfl (ix2 k 0 : S3x1.Idx) fun b => ?_).trans ?_
    · match b with
      | ⟨0, _⟩ => rfl
      | ⟨1, _⟩ => exact hl.symm
    unfold newest
    match k with
    | ⟨0, _⟩ =>
      refine (concatenate_apply_piece (t := S3x1) _ _ _ _ 0 (by simp) S1x1 _ rfl rfl 0 rfl (ix2 0 0 : S1x1.Idx) (fun b hb => ?_) rfl).trans ?_
      · match b with
        | ⟨0, _⟩ => exact absurd rfl hb
        | ⟨1, _⟩ => rfl
      rw [if_pos rfl]
      rw [entry]
      exact (top_of (k0_pay26 X) shapeCasts_S3072x3072_S1x3072x3072 reduces_S1x3072x3072_S1 (.inl rfl) rfl _)
    | ⟨1, _⟩ =>
      refine (concatenate_apply_piece (t := S3x1) _ _ _ _ 1 (by simp) S1x1 _ rfl rfl 1 rfl (ix2 0 0 : S1x1.Idx) (fun b hb => ?_) rfl).trans ?_
      · match b with
        | ⟨0, _⟩ => exact absurd rfl hb
        | ⟨1, _⟩ => rfl
      rw [if_neg (by simp), if_pos rfl]
      rw [entry]
      exact (top_of (extf (F := Ideal) (φ := .bf16) .f32 W bitsLt_bf16_f32) shapeCasts_S3072x2048_S1x3072x2048 reduces_S1x3072x2048_S1 (.inl rfl) rfl _)
    | ⟨2, _⟩ =>
      refine (concatenate_apply_piece (t := S3x1) _ _ _ _ 2 (by simp) S1x1 _ rfl rfl 2 rfl (ix2 0 0 : S1x1.Idx) (fun b hb => ?_) rfl).trans ?_
      · match b with
        | ⟨0, _⟩ => exact absurd rfl hb
        | ⟨1, _⟩ => rfl
      rw [if_neg (by simp), if_neg (by simp)]
      rw [entry]
      exact (top_of (extf (F := Ideal) (φ := .bf16) .f32 D bitsLt_bf16_f32) shapeCasts_S3072x2048_S1x3072x2048 reduces_S1x3072x2048_S1 (.inl rfl) rfl _)
  · have h15 : l.val - 1 < 15 := by have := l.isLt; omega
    rw [if_neg hl]
    refine (concatenate_pair_apply_right (t := S3x16) (s₁ := S3x1) (s₂ := S3x15) _ _ _ _ _ rfl rfl (ix2 k ⟨l.val - 1, h15⟩ : S3x15.Idx) (fun b hb => ?_) ?_).trans ?_
    · match b with
      | ⟨0, _⟩ => rfl
      | ⟨1, _⟩ => exact absurd rfl hb
    · show l.val - 1 + 1 = l.val; omega
    refine extractStridedSlice_apply _ _ _ _ (ix2 k ⟨l.val - 1, by omega⟩) fun a => ?_
    match a with
    | ⟨0, _⟩ => show k.val = 0 + k.val; omega
    | ⟨1, _⟩ => show l.val - 1 = 0 + (l.val - 1); omega

end Cert.RefValue
-- ==== Proof.Value.RefResult.lean ====
/- The reference's results: every output array after the run, as one function of the arguments. -/
module

public import proofs.«01_k».proof.Proof.Value.Ref
public import proofs.«01_k».proof.Proof.Gen.ReferenceIdeal.Frame
public import Idealize.ShloMosaic.Lib.Pipeline.ValueKit.Geometry

@[expose] public section

set_option maxRecDepth 16384

noncomputable section

namespace Cert.RefValue

open Cert.ReferenceIdeal Cert.ReferenceIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The four arrays the region reads. -/
def RH : Vec Ideal S3x16 .f32 := V m c (Pipeline.arrRef spec0 0)
def RX : Vec Ideal S3072x3072 .bf16 := V m c (Pipeline.arrRef spec0 1)
def RW : Vec Ideal S3072x2048 .bf16 := V m c (Pipeline.arrRef spec0 2)
def RD : Vec Ideal S3072x2048 .bf16 := V m c (Pipeline.arrRef spec0 3)

theorem whole_0 (t : Fin cfg0.N) : iblk m c 0 t = RH m c := by
  funext i
  show V m c (Pipeline.arrRef spec0 0) (((cfg0.win 0).rect t).emb i) = V m c (Pipeline.arrRef spec0 0) i
  refine congrArg _ (Shape.idx_ext₂ ?_ ?_)
  · exact (cfg0.win 0).rect_emb_val_of_index_zero t 0 rfl i
  · exact (cfg0.win 0).rect_emb_val_of_index_zero t 1 rfl i

theorem whole_1 (t : Fin cfg0.N) : iblk m c 1 t = RX m c := by
  funext i
  show V m c (Pipeline.arrRef spec0 1) (((cfg0.win 1).rect t).emb i) = V m c (Pipeline.arrRef spec0 1) i
  refine congrArg _ (Shape.idx_ext₂ ?_ ?_)
  · exact (cfg0.win 1).rect_emb_val_of_index_zero t 0 rfl i
  · exact (cfg0.win 1).rect_emb_val_of_index_zero t 1 rfl i

theorem whole_2 (t : Fin cfg0.N) : iblk m c 2 t = RW m c := by
  funext i
  show V m c (Pipeline.arrRef spec0 2) (((cfg0.win 2).rect t).emb i) = V m c (Pipeline.arrRef spec0 2) i
  refine congrArg _ (Shape.idx_ext₂ ?_ ?_)
  · exact (cfg0.win 2).rect_emb_val_of_index_zero t 0 rfl i
  · exact (cfg0.win 2).rect_emb_val_of_index_zero t 1 rfl i

theorem whole_3 (t : Fin cfg0.N) : iblk m c 3 t = RD m c := by
  funext i
  show V m c (Pipeline.arrRef spec0 3) (((cfg0.win 3).rect t).emb i) = V m c (Pipeline.arrRef spec0 3) i
  refine congrArg _ (Shape.idx_ext₂ ?_ ?_)
  · exact (cfg0.win 3).rect_emb_val_of_index_zero t 0 rfl i
  · exact (cfg0.win 3).rect_emb_val_of_index_zero t 1 rfl i

theorem emb_4 (t : Fin cfg0.N) (i : (cfg0.win 4).block.Idx) : ((cfg0.win 4).rect t).emb i = i :=
  funext fun a => match a with
    | ⟨0, _⟩ => Fin.ext ((cfg0.win 4).rect_emb_val_of_index_zero t 0 rfl i)
    | ⟨1, _⟩ => Fin.ext ((cfg0.win 4).rect_emb_val_of_index_zero t 1 rfl i)
    | ⟨2, _⟩ => Fin.ext ((cfg0.win 4).rect_emb_val_of_index_zero t 2 rfl i)

theorem arr4 : (dats m 0 c).arrAt 4 cfg0.N = out0_4 (RH m c) (RX m c) (RW m c) (RD m c) := by
  refine (dats m 0 c).arrAt_eq_of_covers 4 _ (by decide +kernel) fun t hf i => ?_
  have h : (dats m 0 c).after 4 t = out0_4 (RH m c) (RX m c) (RW m c) (RD m c) := by rw [after0_4, whole_0, whole_1, whole_2, whole_3]
  exact (congrFun h i).trans (congrArg (out0_4 (RH m c) (RX m c) (RW m c) (RD m c)) (emb_4 t i).symm)

theorem emb_5 (t : Fin cfg0.N) (i : (cfg0.win 5).block.Idx) : ((cfg0.win 5).rect t).emb i = i :=
  funext fun a => match a with
    | ⟨0, _⟩ => Fin.ext ((cfg0.win 5).rect_emb_val_of_index_zero t 0 rfl i)
    | ⟨1, _⟩ => Fin.ext ((cfg0.win 5).rect_emb_val_of_index_zero t 1 rfl i)
    | ⟨2, _⟩ => Fin.ext ((cfg0.win 5).rect_emb_val_of_index_zero t 2 rfl i)

theorem arr5 : (dats m 0 c).arrAt 5 cfg0.N = out0_5 (RH m c) (RX m c) (RW m c) (RD m c) := by
  refine (dats m 0 c).arrAt_eq_of_covers 5 _ (by decide +kernel) fun t hf i => ?_
  have h : (dats m 0 c).after 5 t = out0_5 (RH m c) (RX m c) (RW m c) (RD m c) := by rw [after0_5, whole_0, whole_1, whole_2, whole_3]
  exact (congrFun h i).trans (congrArg (out0_5 (RH m c) (RX m c) (RW m c) (RD m c)) (emb_5 t i).symm)

theorem emb_6 (t : Fin cfg0.N) (i : (cfg0.win 6).block.Idx) : ((cfg0.win 6).rect t).emb i = i :=
  funext fun a => match a with
    | ⟨0, _⟩ => Fin.ext ((cfg0.win 6).rect_emb_val_of_index_zero t 0 rfl i)
    | ⟨1, _⟩ => Fin.ext ((cfg0.win 6).rect_emb_val_of_index_zero t 1 rfl i)

theorem arr6 : (dats m 0 c).arrAt 6 cfg0.N = out0_6 (RH m c) (RX m c) (RW m c) (RD m c) := by
  refine (dats m 0 c).arrAt_eq_of_covers 6 _ (by decide +kernel) fun t hf i => ?_
  have h : (dats m 0 c).after 6 t = out0_6 (RH m c) (RX m c) (RW m c) (RD m c) := by rw [after0_6, whole_0, whole_1, whole_2, whole_3]
  exact (congrFun h i).trans (congrArg (out0_6 (RH m c) (RX m c) (RW m c) (RD m c)) (emb_6 t i).symm)

theorem emb_7 (t : Fin cfg0.N) (i : (cfg0.win 7).block.Idx) : ((cfg0.win 7).rect t).emb i = i :=
  funext fun a => match a with
    | ⟨0, _⟩ => Fin.ext ((cfg0.win 7).rect_emb_val_of_index_zero t 0 rfl i)
    | ⟨1, _⟩ => Fin.ext ((cfg0.win 7).rect_emb_val_of_index_zero t 1 rfl i)

theorem arr7 : (dats m 0 c).arrAt 7 cfg0.N = out0_7 (RH m c) (RX m c) (RW m c) (RD m c) := by
  refine (dats m 0 c).arrAt_eq_of_covers 7 _ (by decide +kernel) fun t hf i => ?_
  have h : (dats m 0 c).after 7 t = out0_7 (RH m c) (RX m c) (RW m c) (RD m c) := by rw [after0_7, whole_0, whole_1, whole_2, whole_3]
  exact (congrFun h i).trans (congrArg (out0_7 (RH m c) (RX m c) (RW m c) (RD m c)) (emb_7 t i).symm)

theorem emb_8 (t : Fin cfg0.N) (i : (cfg0.win 8).block.Idx) : ((cfg0.win 8).rect t).emb i = i :=
  funext fun a => match a with
    | ⟨0, _⟩ => Fin.ext ((cfg0.win 8).rect_emb_val_of_index_zero t 0 rfl i)
    | ⟨1, _⟩ => Fin.ext ((cfg0.win 8).rect_emb_val_of_index_zero t 1 rfl i)

theorem arr8 : (dats m 0 c).arrAt 8 cfg0.N = out0_8 (RH m c) (RX m c) (RW m c) (RD m c) := by
  refine (dats m 0 c).arrAt_eq_of_covers 8 _ (by decide +kernel) fun t hf i => ?_
  have h : (dats m 0 c).after 8 t = out0_8 (RH m c) (RX m c) (RW m c) (RD m c) := by rw [after0_8, whole_0, whole_1, whole_2, whole_3]
  exact (congrFun h i).trans (congrArg (out0_8 (RH m c) (RX m c) (RW m c) (RD m c)) (emb_8 t i).symm)

theorem emb_9 (t : Fin cfg0.N) (i : (cfg0.win 9).block.Idx) : ((cfg0.win 9).rect t).emb i = i :=
  funext fun a => match a with
    | ⟨0, _⟩ => Fin.ext ((cfg0.win 9).rect_emb_val_of_index_zero t 0 rfl i)
    | ⟨1, _⟩ => Fin.ext ((cfg0.win 9).rect_emb_val_of_index_zero t 1 rfl i)

theorem arr9 : (dats m 0 c).arrAt 9 cfg0.N = out0_9 (RH m c) (RX m c) (RW m c) (RD m c) := by
  refine (dats m 0 c).arrAt_eq_of_covers 9 _ (by decide +kernel) fun t hf i => ?_
  have h : (dats m 0 c).after 9 t = out0_9 (RH m c) (RX m c) (RW m c) (RD m c) := by rw [after0_9, whole_0, whole_1, whole_2, whole_3]
  exact (congrFun h i).trans (congrArg (out0_9 (RH m c) (RX m c) (RW m c) (RD m c)) (emb_9 t i).symm)

theorem emb_10 (t : Fin cfg0.N) (i : (cfg0.win 10).block.Idx) : ((cfg0.win 10).rect t).emb i = i :=
  funext fun a => match a with
    | ⟨0, _⟩ => Fin.ext ((cfg0.win 10).rect_emb_val_of_index_zero t 0 rfl i)
    | ⟨1, _⟩ => Fin.ext ((cfg0.win 10).rect_emb_val_of_index_zero t 1 rfl i)

theorem arr10 : (dats m 0 c).arrAt 10 cfg0.N = out0_10 (RH m c) (RX m c) (RW m c) (RD m c) := by
  refine (dats m 0 c).arrAt_eq_of_covers 10 _ (by decide +kernel) fun t hf i => ?_
  have h : (dats m 0 c).after 10 t = out0_10 (RH m c) (RX m c) (RW m c) (RD m c) := by rw [after0_10, whole_0, whole_1, whole_2, whole_3]
  exact (congrFun h i).trans (congrArg (out0_10 (RH m c) (RX m c) (RW m c) (RD m c)) (emb_10 t i).symm)

theorem emb_11 (t : Fin cfg0.N) (i : (cfg0.win 11).block.Idx) : ((cfg0.win 11).rect t).emb i = i :=
  funext fun a => match a with
    | ⟨0, _⟩ => Fin.ext ((cfg0.win 11).rect_emb_val_of_index_zero t 0 rfl i)
    | ⟨1, _⟩ => Fin.ext ((cfg0.win 11).rect_emb_val_of_index_zero t 1 rfl i)

theorem arr11 : (dats m 0 c).arrAt 11 cfg0.N = out0_11 (RH m c) (RX m c) (RW m c) (RD m c) := by
  refine (dats m 0 c).arrAt_eq_of_covers 11 _ (by decide +kernel) fun t hf i => ?_
  have h : (dats m 0 c).after 11 t = out0_11 (RH m c) (RX m c) (RW m c) (RD m c) := by rw [after0_11, whole_0, whole_1, whole_2, whole_3]
  exact (congrFun h i).trans (congrArg (out0_11 (RH m c) (RX m c) (RW m c) (RD m c)) (emb_11 t i).symm)

theorem emb_12 (t : Fin cfg0.N) (i : (cfg0.win 12).block.Idx) : ((cfg0.win 12).rect t).emb i = i :=
  funext fun a => match a with
    | ⟨0, _⟩ => Fin.ext ((cfg0.win 12).rect_emb_val_of_index_zero t 0 rfl i)
    | ⟨1, _⟩ => Fin.ext ((cfg0.win 12).rect_emb_val_of_index_zero t 1 rfl i)

theorem arr12 : (dats m 0 c).arrAt 12 cfg0.N = out0_12 (RH m c) (RX m c) (RW m c) (RD m c) := by
  refine (dats m 0 c).arrAt_eq_of_covers 12 _ (by decide +kernel) fun t hf i => ?_
  have h : (dats m 0 c).after 12 t = out0_12 (RH m c) (RX m c) (RW m c) (RD m c) := by rw [after0_12, whole_0, whole_1, whole_2, whole_3]
  exact (congrFun h i).trans (congrArg (out0_12 (RH m c) (RX m c) (RW m c) (RD m c)) (emb_12 t i).symm)

theorem emb_13 (t : Fin cfg0.N) (i : (cfg0.win 13).block.Idx) : ((cfg0.win 13).rect t).emb i = i :=
  funext fun a => match a with
    | ⟨0, _⟩ => Fin.ext ((cfg0.win 13).rect_emb_val_of_index_zero t 0 rfl i)
    | ⟨1, _⟩ => Fin.ext ((cfg0.win 13).rect_emb_val_of_index_zero t 1 rfl i)

theorem arr13 : (dats m 0 c).arrAt 13 cfg0.N = out0_13 (RH m c) (RX m c) (RW m c) (RD m c) := by
  refine (dats m 0 c).arrAt_eq_of_covers 13 _ (by decide +kernel) fun t hf i => ?_
  have h : (dats m 0 c).after 13 t = out0_13 (RH m c) (RX m c) (RW m c) (RD m c) := by rw [after0_13, whole_0, whole_1, whole_2, whole_3]
  exact (congrFun h i).trans (congrArg (out0_13 (RH m c) (RX m c) (RW m c) (RD m c)) (emb_13 t i).symm)

/-- The run: every result at its function of the region arrays, and the arguments unchanged. -/
theorem run_values : θ_run defs (onTc (τ := τ) (main (F := Ideal))) ⟨m, fun _ => 0, ρ⟩ (fun r => ∀ c : Dev nD,
      r.2.mem ((c.tc : Thread nD τ).loc main_v2_0) = out0_4 (RH m c) (RX m c) (RW m c) (RD m c)
      ∧ r.2.mem ((c.tc : Thread nD τ).loc main_v2_1) = out0_5 (RH m c) (RX m c) (RW m c) (RD m c)
      ∧ r.2.mem ((c.tc : Thread nD τ).loc main_v2_2) = out0_6 (RH m c) (RX m c) (RW m c) (RD m c)
      ∧ r.2.mem ((c.tc : Thread nD τ).loc main_v2_3) = out0_7 (RH m c) (RX m c) (RW m c) (RD m c)
      ∧ r.2.mem ((c.tc : Thread nD τ).loc main_v2_4) = out0_8 (RH m c) (RX m c) (RW m c) (RD m c)
      ∧ r.2.mem ((c.tc : Thread nD τ).loc main_v2_5) = out0_9 (RH m c) (RX m c) (RW m c) (RD m c)
      ∧ r.2.mem ((c.tc : Thread nD τ).loc main_v2_6) = out0_10 (RH m c) (RX m c) (RW m c) (RD m c)
      ∧ r.2.mem ((c.tc : Thread nD τ).loc main_v2_7) = out0_11 (RH m c) (RX m c) (RW m c) (RD m c)
      ∧ r.2.mem ((c.tc : Thread nD τ).loc main_v2_8) = out0_12 (RH m c) (RX m c) (RW m c) (RD m c)
      ∧ r.2.mem ((c.tc : Thread nD τ).loc main_v2_9) = out0_13 (RH m c) (RX m c) (RW m c) (RD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).1 4).trans (arr4 m c),
        ((h c).1 5).trans (arr5 m c),
        ((h c).1 6).trans (arr6 m c),
        ((h c).1 7).trans (arr7 m c),
        ((h c).1 8).trans (arr8 m c),
        ((h c).1 9).trans (arr9 m c),
        ((h c).1 10).trans (arr10 m c),
        ((h c).1 11).trans (arr11 m c),
        ((h c).1 12).trans (arr12 m c),
        ((h c).1 13).trans (arr13 m c),
        ((h c).2 main_arg0 (Pipeline.mem_restRefs_of main_arg0 (by decide) (by decide))).trans (V_main_arg0 m c),
        ((h c).1 2).trans (((dats m 0 c).arrAt_in 2 rfl _).trans ((A_eq m c 2).trans (V_main_arg1 m c))),
        ((h c).2 main_arg2 (Pipeline.mem_restRefs_of main_arg2 (by decide) (by decide))).trans (V_main_arg2 m c),
        ((h c).1 0).trans (((dats m 0 c).arrAt_in 0 rfl _).trans ((A_eq m c 0).trans (V_main_arg3 m c)))⟩)
    (run_main m ρ)

theorem RH_eq : RH m c = m ((c.tc : Thread nD τ).loc main_arg3) := V_main_arg3 m c
theorem RW_eq : RW m c = m ((c.tc : Thread nD τ).loc main_arg1) := V_main_arg1 m c

theorem RX_eq : RX m c = shapeCast S3072x3072 (m ((c.tc : Thread nD τ).loc main_arg0)) shapeCasts_S1x3072x3072_S3072x3072 := by
  show StableHlo.after hostOps0 (fun b => m (c, b)) (Proc.devRef .tc main_v0) = _
  after_results
  rfl

theorem RD_eq : RD m c = shapeCast S3072x2048 (m ((c.tc : Thread nD τ).loc main_arg2)) shapeCasts_S1x3072x2048_S3072x2048 := by
  show StableHlo.after hostOps0 (fun b => m (c, b)) (Proc.devRef .tc main_v1) = _
  after_results
  rfl

end Cert.RefValue

end
-- ==== Proof.Value.Same.lean ====
/- The kernel and the reference compute the same results. -/
module

public import proofs.«01_k».proof.Defs
public import proofs.«01_k».proof.Proof.Value.Result
public import proofs.«01_k».proof.Proof.Value.RefResult

@[expose] public section

set_option maxRecDepth 16384

noncomputable section

namespace Cert.Same

open Idealize.ShloMosaic Idealize.ShloMosaic.TcCoe Idealize.ShloMosaic.ValueIdx Idealize.SL.Sem
open Cert.KernelIdeal.Val Cert.RefValue

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

theorem sameH (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : RH m' c = H m c := (RH_eq m' c).trans (h.trans (H_eq m c).symm)
theorem sameW (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : RW m' c = W m c := (RW_eq m' c).trans (h.trans (W_eq m c).symm)
theorem sameX (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) : RX m' c = X m c :=
  (RX_eq m' c).trans ((congrArg (fun v => shapeCast Cert.KernelIdeal.S3072x3072 v Cert.KernelIdeal.Gen.facts.shapeCasts_S1x3072x3072_S3072x3072) h).trans (X_eq m c).symm)
theorem sameD (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : RD m' c = D m c :=
  (RD_eq m' c).trans ((congrArg (fun v => shapeCast Cert.KernelIdeal.S3072x2048 v Cert.KernelIdeal.Gen.facts.shapeCasts_S1x3072x2048_S3072x2048) h).trans (D_eq m c).symm)

variable (hH : RH m' c = H m c) (hX : RX m' c = X m c) (hW : RW m' c = W m c) (hD : RD m' c = D m c)
include hH hX hW hD

theorem same4 : Cert.ReferenceIdeal.Gen.out0_4 (RH m' c) (RX m' c) (RW m' c) (RD m' c) = O4 m c := by
  rw [hH, hX, hW, hD]
  funext i
  have e : i = ix3 (i 0) (i 1) (i 2) := funext fun a => match a with | ⟨0, _⟩ => rfl | ⟨1, _⟩ => rfl | ⟨2, _⟩ => rfl
  rw [e]; exact out4 (H m c) (X m c) (W m c) (D m c) (i 0) (i 1) (i 2)

theorem same5 : Cert.ReferenceIdeal.Gen.out0_5 (RH m' c) (RX m' c) (RW m' c) (RD m' c) = O5 m c := by
  rw [hH, hX, hW, hD]
  funext i
  have e : i = ix3 (i 0) (i 1) (i 2) := funext fun a => match a with | ⟨0, _⟩ => rfl | ⟨1, _⟩ => rfl | ⟨2, _⟩ => rfl
  rw [e]; exact out5 (H m c) (X m c) (W m c) (D m c) (i 0) (i 1) (i 2)

theorem same6 : Cert.ReferenceIdeal.Gen.out0_6 (RH m' c) (RX m' c) (RW m' c) (RD m' c) = O6 m c := by
  rw [hH, hX, hW, hD]
  funext i
  have e : i = ix2 (i 0) (i 1) := Shape.idx_ext₂ rfl rfl
  rw [e]; exact out6 (H m c) (X m c) (W m c) (D m c) (i 0) (i 1)

theorem same7 : Cert.ReferenceIdeal.Gen.out0_7 (RH m' c) (RX m' c) (RW m' c) (RD m' c) = O7 m c := by
  rw [hH, hX, hW, hD]
  exact out7 (H m c) (X m c) (W m c) (D m c)

theorem same8 : Cert.ReferenceIdeal.Gen.out0_8 (RH m' c) (RX m' c) (RW m' c) (RD m' c) = O8 m c := by
  rw [hH, hX, hW, hD]
  exact out8 (H m c) (X m c) (W m c) (D m c)

theorem same9 : Cert.ReferenceIdeal.Gen.out0_9 (RH m' c) (RX m' c) (RW m' c) (RD m' c) = O9 m c := by
  rw [hH, hX, hW, hD]
  exact out9 (H m c) (X m c) (W m c) (D m c)

theorem same10 : Cert.ReferenceIdeal.Gen.out0_10 (RH m' c) (RX m' c) (RW m' c) (RD m' c) = O10 m c := by
  rw [hH, hX, hW, hD]
  exact out10 (H m c) (X m c) (W m c) (D m c)

theorem same11 : Cert.ReferenceIdeal.Gen.out0_11 (RH m' c) (RX m' c) (RW m' c) (RD m' c) = O11 m c := by
  rw [hH, hX, hW, hD]
  exact out11 (H m c) (X m c) (W m c) (D m c)

theorem same12 : Cert.ReferenceIdeal.Gen.out0_12 (RH m' c) (RX m' c) (RW m' c) (RD m' c) = O12 m c := by
  rw [hH, hX, hW, hD]
  exact out12 (H m c) (X m c) (W m c) (D m c)

theorem same13 : Cert.ReferenceIdeal.Gen.out0_13 (RH m' c) (RX m' c) (RW m' c) (RD m' c) = O13 m c := by
  rw [hH, hX, hW, hD]
  funext i
  have e : i = ix2 (i 0) (i 1) := Shape.idx_ext₂ rfl rfl
  rw [e]; exact out13 (H m c) (X m c) (W m c) (D m c) (i 0) (i 1)

omit hH hX hW hD

theorem algebraic [hKernelIdeal : Cert.KernelIdeal.Facts] [hReferenceIdeal : Cert.ReferenceIdeal.Facts] : Cert.algebraic_KernelIdeal_ReferenceIdeal := by
  intro m g m' g' _ hargs
  refine ⟨fun c => O4 m c, fun c => O5 m c, fun c => O6 m c, fun c => O7 m c, fun c => O8 m c, fun c => O9 m c, fun c => O10 m c, fun c => O11 m c, fun c => O12 m c, fun c => O13 m c, Cert.KernelIdeal.Val.run_values m g, ?_⟩
  refine (θ_run Cert.ReferenceIdeal.defs _ _).mono (fun r h c => ?_) (Cert.RefValue.run_values m' g')
  obtain ⟨h0, h1, h2, h3⟩ := hargs c
  have hH := sameH h3
  have hX := sameX h0
  have hW := sameW h1
  have hD := sameD h2
  obtain ⟨r4, r5, r6, r7, r8, r9, r10, r11, r12, r13, a⟩ := h c
  exact ⟨r4.trans (same4 hH hX hW hD),
    r5.trans (same5 hH hX hW hD),
    r6.trans (same6 hH hX hW hD),
    r7.trans (same7 hH hX hW hD),
    r8.trans (same8 hH hX hW hD),
    r9.trans (same9 hH hX hW hD),
    r10.trans (same10 hH hX hW hD),
    r11.trans (same11 hH hX hW hD),
    r12.trans (same12 hH hX hW hD),
    r13.trans (same13 hH hX hW hD),
    a⟩

end Cert.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Frame.Kernel
public import proofs.«01_k».proof.Proof.Frame.KernelIdeal
public import proofs.«01_k».proof.Proof.Value.Same

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial,
    Cert.Same.algebraic⟩

end Cert.Proof

end
